-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x400 : Shape := ⟨2, ![128, 400]⟩
abbrev S128x160000 : Shape := ⟨2, ![128, 160000]⟩
abbrev S400x128 : Shape := ⟨2, ![400, 128]⟩
abbrev S128x8192 : Shape := ⟨2, ![128, 8192]⟩
abbrev S2 : Shape := ⟨1, ![2]⟩
abbrev S1x128 : Shape := ⟨2, ![1, 128]⟩
abbrev S16x128 : Shape := ⟨2, ![16, 128]⟩
abbrev S1x16x128 : Shape := ⟨3, ![1, 16, 128]⟩
abbrev S16x1x128 : Shape := ⟨3, ![16, 1, 128]⟩
abbrev S16x16x128 : Shape := ⟨3, ![16, 16, 128]⟩
abbrev S256x128 : Shape := ⟨2, ![256, 128]⟩
abbrev S128x256 : Shape := ⟨2, ![128, 256]⟩
abbrev S3x16x128 : Shape := ⟨3, ![3, 16, 128]⟩
abbrev S16x3x128 : Shape := ⟨3, ![16, 3, 128]⟩
abbrev S48x128 : Shape := ⟨2, ![48, 128]⟩
abbrev S1x48x128 : Shape := ⟨3, ![1, 48, 128]⟩
abbrev S16x48x128 : Shape := ⟨3, ![16, 48, 128]⟩
abbrev S768x128 : Shape := ⟨2, ![768, 128]⟩
abbrev S128x768 : Shape := ⟨2, ![128, 768]⟩
abbrev S1 : Shape := ⟨1, ![1]⟩
abbrev S_ : Shape := ⟨0, ![]⟩
abbrev S5x16x128 : Shape := ⟨3, ![5, 16, 128]⟩
abbrev S16x5x128 : Shape := ⟨3, ![16, 5, 128]⟩
abbrev S80x128 : Shape := ⟨2, ![80, 128]⟩
abbrev S1x80x128 : Shape := ⟨3, ![1, 80, 128]⟩
abbrev S16x80x128 : Shape := ⟨3, ![16, 80, 128]⟩
abbrev S1280x128 : Shape := ⟨2, ![1280, 128]⟩
abbrev S128x1280 : Shape := ⟨2, ![128, 1280]⟩
abbrev S128x7424 : Shape := ⟨2, ![128, 7424]⟩
abbrev S128x7680 : Shape := ⟨2, ![128, 7680]⟩
abbrev S7x16x128 : Shape := ⟨3, ![7, 16, 128]⟩
abbrev S16x7x128 : Shape := ⟨3, ![16, 7, 128]⟩
abbrev S112x128 : Shape := ⟨2, ![112, 128]⟩
abbrev S1x112x128 : Shape := ⟨3, ![1, 112, 128]⟩
abbrev S16x112x128 : Shape := ⟨3, ![16, 112, 128]⟩
abbrev S1792x128 : Shape := ⟨2, ![1792, 128]⟩
abbrev S128x1792 : Shape := ⟨2, ![128, 1792]⟩
abbrev S128x7168 : Shape := ⟨2, ![128, 7168]⟩
abbrev S9x16x128 : Shape := ⟨3, ![9, 16, 128]⟩
abbrev S16x9x128 : Shape := ⟨3, ![16, 9, 128]⟩
abbrev S144x128 : Shape := ⟨2, ![144, 128]⟩
abbrev S1x144x128 : Shape := ⟨3, ![1, 144, 128]⟩
abbrev S16x144x128 : Shape := ⟨3, ![16, 144, 128]⟩
abbrev S2304x128 : Shape := ⟨2, ![2304, 128]⟩
abbrev S128x2304 : Shape := ⟨2, ![128, 2304]⟩
abbrev S128x6400 : Shape := ⟨2, ![128, 6400]⟩
abbrev S128x6912 : Shape := ⟨2, ![128, 6912]⟩
abbrev S11x16x128 : Shape := ⟨3, ![11, 16, 128]⟩
abbrev S16x11x128 : Shape := ⟨3, ![16, 11, 128]⟩
abbrev S176x128 : Shape := ⟨2, ![176, 128]⟩
abbrev S1x176x128 : Shape := ⟨3, ![1, 176, 128]⟩
abbrev S16x176x128 : Shape := ⟨3, ![16, 176, 128]⟩
abbrev S2816x128 : Shape := ⟨2, ![2816, 128]⟩
abbrev S128x2816 : Shape := ⟨2, ![128, 2816]⟩
abbrev S128x7936 : Shape := ⟨2, ![128, 7936]⟩
abbrev S128x5632 : Shape := ⟨2, ![128, 5632]⟩
abbrev S13x16x128 : Shape := ⟨3, ![13, 16, 128]⟩
abbrev S16x13x128 : Shape := ⟨3, ![16, 13, 128]⟩
abbrev S208x128 : Shape := ⟨2, ![208, 128]⟩
abbrev S1x208x128 : Shape := ⟨3, ![1, 208, 128]⟩
abbrev S16x208x128 : Shape := ⟨3, ![16, 208, 128]⟩
abbrev S3328x128 : Shape := ⟨2, ![3328, 128]⟩
abbrev S128x3328 : Shape := ⟨2, ![128, 3328]⟩
abbrev S128x6656 : Shape := ⟨2, ![128, 6656]⟩
abbrev S15x16x128 : Shape := ⟨3, ![15, 16, 128]⟩
abbrev S16x15x128 : Shape := ⟨3, ![16, 15, 128]⟩
abbrev S240x128 : Shape := ⟨2, ![240, 128]⟩
abbrev S1x240x128 : Shape := ⟨3, ![1, 240, 128]⟩
abbrev S16x240x128 : Shape := ⟨3, ![16, 240, 128]⟩
abbrev S3840x128 : Shape := ⟨2, ![3840, 128]⟩
abbrev S128x3840 : Shape := ⟨2, ![128, 3840]⟩
abbrev S17x16x128 : Shape := ⟨3, ![17, 16, 128]⟩
abbrev S16x17x128 : Shape := ⟨3, ![16, 17, 128]⟩
abbrev S272x128 : Shape := ⟨2, ![272, 128]⟩
abbrev S1x272x128 : Shape := ⟨3, ![1, 272, 128]⟩
abbrev S16x272x128 : Shape := ⟨3, ![16, 272, 128]⟩
abbrev S4352x128 : Shape := ⟨2, ![4352, 128]⟩
abbrev S128x4352 : Shape := ⟨2, ![128, 4352]⟩

abbrev nBuf : Space → Nat
  | .hbm => 3
  | .vmem => 6
  | .smem => 0
  | _ => 0

abbrev bufTy : (tb : Table) → Fin (tcTables nBuf tb) → BufTy
  | .hbm, ⟨0, _⟩ => ⟨S128x400, .f32⟩
  | .hbm, ⟨1, _⟩ => ⟨S128x400, .f32⟩
  | .hbm, ⟨2, _⟩ => ⟨S128x160000, .f32⟩
  | .local _ .vmem, ⟨0, _⟩ => ⟨S128x400, .f32⟩
  | .local _ .vmem, ⟨1, _⟩ => ⟨S128x400, .f32⟩
  | .local _ .vmem, ⟨2, _⟩ => ⟨S400x128, .f32⟩
  | .local _ .vmem, ⟨3, _⟩ => ⟨S400x128, .f32⟩
  | .local _ .vmem, ⟨4, _⟩ => ⟨S128x8192, .f32⟩
  | .local _ .vmem, ⟨5, _⟩ => ⟨S128x8192, .f32⟩
  | _, _ => ⟨S128x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x400 : Shape := ⟨2, ![128, 400]⟩
abbrev S1x1x1 : Shape := ⟨3, ![1, 1, 1]⟩
abbrev S1x3x3 : Shape := ⟨3, ![1, 3, 3]⟩
abbrev S1x5x5 : Shape := ⟨3, ![1, 5, 5]⟩
abbrev S1x7x7 : Shape := ⟨3, ![1, 7, 7]⟩
abbrev S1x9x9 : Shape := ⟨3, ![1, 9, 9]⟩
abbrev S3x1x3 : Shape := ⟨3, ![3, 1, 3]⟩
abbrev S3x3x1 : Shape := ⟨3, ![3, 3, 1]⟩
abbrev S3x3x3 : Shape := ⟨3, ![3, 3, 3]⟩
abbrev S3x3x5 : Shape := ⟨3, ![3, 3, 5]⟩
abbrev S3x5x3 : Shape := ⟨3, ![3, 5, 3]⟩
abbrev S3x5x5 : Shape := ⟨3, ![3, 5, 5]⟩
abbrev S3x5x7 : Shape := ⟨3, ![3, 5, 7]⟩
abbrev S3x7x5 : Shape := ⟨3, ![3, 7, 5]⟩
abbrev S3x7x7 : Shape := ⟨3, ![3, 7, 7]⟩
abbrev S3x7x9 : Shape := ⟨3, ![3, 7, 9]⟩
abbrev S3x9x7 : Shape := ⟨3, ![3, 9, 7]⟩
abbrev S3x9x9 : Shape := ⟨3, ![3, 9, 9]⟩
abbrev S3x9x11 : Shape := ⟨3, ![3, 9, 11]⟩
abbrev S5x1x5 : Shape := ⟨3, ![5, 1, 5]⟩
abbrev S5x3x3 : Shape := ⟨3, ![5, 3, 3]⟩
abbrev S5x3x5 : Shape := ⟨3, ![5, 3, 5]⟩
abbrev S5x3x7 : Shape := ⟨3, ![5, 3, 7]⟩
abbrev S5x5x1 : Shape := ⟨3, ![5, 5, 1]⟩
abbrev S5x5x3 : Shape := ⟨3, ![5, 5, 3]⟩
abbrev S5x5x5 : Shape := ⟨3, ![5, 5, 5]⟩
abbrev S5x5x7 : Shape := ⟨3, ![5, 5, 7]⟩
abbrev S5x5x9 : Shape := ⟨3, ![5, 5, 9]⟩
abbrev S5x7x3 : Shape := ⟨3, ![5, 7, 3]⟩
abbrev S5x7x5 : Shape := ⟨3, ![5, 7, 5]⟩
abbrev S5x7x7 : Shape := ⟨3, ![5, 7, 7]⟩
abbrev S5x7x9 : Shape := ⟨3, ![5, 7, 9]⟩
abbrev S5x7x11 : Shape := ⟨3, ![5, 7, 11]⟩
abbrev S5x9x5 : Shape := ⟨3, ![5, 9, 5]⟩
abbrev S5x9x7 : Shape := ⟨3, ![5, 9, 7]⟩
abbrev S5x9x9 : Shape := ⟨3, ![5, 9, 9]⟩
abbrev S5x9x11 : Shape := ⟨3, ![5, 9, 11]⟩
abbrev S5x9x13 : Shape := ⟨3, ![5, 9, 13]⟩
abbrev S7x1x7 : Shape := ⟨3, ![7, 1, 7]⟩
abbrev S7x3x5 : Shape := ⟨3, ![7, 3, 5]⟩
abbrev S7x3x7 : Shape := ⟨3, ![7, 3, 7]⟩
abbrev S7x3x9 : Shape := ⟨3, ![7, 3, 9]⟩
abbrev S7x5x3 : Shape := ⟨3, ![7, 5, 3]⟩
abbrev S7x5x5 : Shape := ⟨3, ![7, 5, 5]⟩
abbrev S7x5x7 : Shape := ⟨3, ![7, 5, 7]⟩
abbrev S7x5x9 : Shape := ⟨3, ![7, 5, 9]⟩
abbrev S7x5x11 : Shape := ⟨3, ![7, 5, 11]⟩
abbrev S7x7x1 : Shape := ⟨3, ![7, 7, 1]⟩
abbrev S7x7x3 : Shape := ⟨3, ![7, 7, 3]⟩
abbrev S7x7x5 : Shape := ⟨3, ![7, 7, 5]⟩
abbrev S7x7x7 : Shape := ⟨3, ![7, 7, 7]⟩
abbrev S7x7x9 : Shape := ⟨3, ![7, 7, 9]⟩
abbrev S7x7x11 : Shape := ⟨3, ![7, 7, 11]⟩
abbrev S7x7x13 : Shape := ⟨3, ![7, 7, 13]⟩
abbrev S7x9x3 : Shape := ⟨3, ![7, 9, 3]⟩
abbrev S7x9x5 : Shape := ⟨3, ![7, 9, 5]⟩
abbrev S7x9x7 : Shape := ⟨3, ![7, 9, 7]⟩
abbrev S7x9x9 : Shape := ⟨3, ![7, 9, 9]⟩
abbrev S7x9x11 : Shape := ⟨3, ![7, 9, 11]⟩
abbrev S7x9x13 : Shape := ⟨3, ![7, 9, 13]⟩
abbrev S7x9x15 : Shape := ⟨3, ![7, 9, 15]⟩
abbrev S9x1x9 : Shape := ⟨3, ![9, 1, 9]⟩
abbrev S9x3x7 : Shape := ⟨3, ![9, 3, 7]⟩
abbrev S9x3x9 : Shape := ⟨3, ![9, 3, 9]⟩
abbrev S9x3x11 : Shape := ⟨3, ![9, 3, 11]⟩
abbrev S9x5x5 : Shape := ⟨3, ![9, 5, 5]⟩
abbrev S9x5x7 : Shape := ⟨3, ![9, 5, 7]⟩
abbrev S9x5x9 : Shape := ⟨3, ![9, 5, 9]⟩
abbrev S9x5x11 : Shape := ⟨3, ![9, 5, 11]⟩
abbrev S9x5x13 : Shape := ⟨3, ![9, 5, 13]⟩
abbrev S9x7x3 : Shape := ⟨3, ![9, 7, 3]⟩
abbrev S9x7x5 : Shape := ⟨3, ![9, 7, 5]⟩
abbrev S9x7x7 : Shape := ⟨3, ![9, 7, 7]⟩
abbrev S9x7x9 : Shape := ⟨3, ![9, 7, 9]⟩
abbrev S9x7x11 : Shape := ⟨3, ![9, 7, 11]⟩
abbrev S9x7x13 : Shape := ⟨3, ![9, 7, 13]⟩
abbrev S9x7x15 : Shape := ⟨3, ![9, 7, 15]⟩
abbrev S9x9x1 : Shape := ⟨3, ![9, 9, 1]⟩
abbrev S9x9x3 : Shape := ⟨3, ![9, 9, 3]⟩
abbrev S9x9x5 : Shape := ⟨3, ![9, 9, 5]⟩
abbrev S9x9x7 : Shape := ⟨3, ![9, 9, 7]⟩
abbrev S9x9x9 : Shape := ⟨3, ![9, 9, 9]⟩
abbrev S9x9x11 : Shape := ⟨3, ![9, 9, 11]⟩
abbrev S9x9x13 : Shape := ⟨3, ![9, 9, 13]⟩
abbrev S9x9x15 : Shape := ⟨3, ![9, 9, 15]⟩
abbrev S9x9x17 : Shape := ⟨3, ![9, 9, 17]⟩
abbrev S128x16 : Shape := ⟨2, ![128, 16]⟩
abbrev S128x16x1 : Shape := ⟨3, ![128, 16, 1]⟩
abbrev S128x16x1x1 : Shape := ⟨4, ![128, 16, 1, 1]⟩
abbrev S128x16x16x1 : Shape := ⟨4, ![128, 16, 16, 1]⟩
abbrev S128x256 : Shape := ⟨2, ![128, 256]⟩
abbrev S128x48 : Shape := ⟨2, ![128, 48]⟩
abbrev S128x16x3 : Shape := ⟨3, ![128, 16, 3]⟩
abbrev S128x16x1x3 : Shape := ⟨4, ![128, 16, 1, 3]⟩
abbrev S128x16x16x3 : Shape := ⟨4, ![128, 16, 16, 3]⟩
abbrev S128x768 : Shape := ⟨2, ![128, 768]⟩
abbrev S128x80 : Shape := ⟨2, ![128, 80]⟩
abbrev S128x16x5 : Shape := ⟨3, ![128, 16, 5]⟩
abbrev S128x16x1x5 : Shape := ⟨4, ![128, 16, 1, 5]⟩
abbrev S128x16x16x5 : Shape := ⟨4, ![128, 16, 16, 5]⟩
abbrev S128x1280 : Shape := ⟨2, ![128, 1280]⟩
abbrev S128x112 : Shape := ⟨2, ![128, 112]⟩
abbrev S128x16x7 : Shape := ⟨3, ![128, 16, 7]⟩
abbrev S128x16x1x7 : Shape := ⟨4, ![128, 16, 1, 7]⟩
abbrev S128x16x16x7 : Shape := ⟨4, ![128, 16, 16, 7]⟩
abbrev S128x1792 : Shape := ⟨2, ![128, 1792]⟩
abbrev S128x144 : Shape := ⟨2, ![128, 144]⟩
abbrev S128x16x9 : Shape := ⟨3, ![128, 16, 9]⟩
abbrev S128x16x1x9 : Shape := ⟨4, ![128, 16, 1, 9]⟩
abbrev S128x16x16x9 : Shape := ⟨4, ![128, 16, 16, 9]⟩
abbrev S128x2304 : Shape := ⟨2, ![128, 2304]⟩
abbrev S128x16x3x3 : Shape := ⟨4, ![128, 16, 3, 3]⟩
abbrev S128x16x3x1 : Shape := ⟨4, ![128, 16, 3, 1]⟩
abbrev S128x16x3x5 : Shape := ⟨4, ![128, 16, 3, 5]⟩
abbrev S128x16x3x7 : Shape := ⟨4, ![128, 16, 3, 7]⟩
abbrev S128x16x3x9 : Shape := ⟨4, ![128, 16, 3, 9]⟩
abbrev S128x16x3x11 : Shape := ⟨4, ![128, 16, 3, 11]⟩
abbrev S128x16x16x11 : Shape := ⟨4, ![128, 16, 16, 11]⟩
abbrev S128x2816 : Shape := ⟨2, ![128, 2816]⟩
abbrev S128x16x5x5 : Shape := ⟨4, ![128, 16, 5, 5]⟩
abbrev S128x16x5x3 : Shape := ⟨4, ![128, 16, 5, 3]⟩
abbrev S128x16x5x7 : Shape := ⟨4, ![128, 16, 5, 7]⟩
abbrev S128x16x5x1 : Shape := ⟨4, ![128, 16, 5, 1]⟩
abbrev S128x16x5x9 : Shape := ⟨4, ![128, 16, 5, 9]⟩
abbrev S128x16x5x11 : Shape := ⟨4, ![128, 16, 5, 11]⟩
abbrev S128x16x5x13 : Shape := ⟨4, ![128, 16, 5, 13]⟩
abbrev S128x16x16x13 : Shape := ⟨4, ![128, 16, 16, 13]⟩
abbrev S128x3328 : Shape := ⟨2, ![128, 3328]⟩
abbrev S128x16x7x7 : Shape := ⟨4, ![128, 16, 7, 7]⟩
abbrev S128x16x7x5 : Shape := ⟨4, ![128, 16, 7, 5]⟩
abbrev S128x16x7x9 : Shape := ⟨4, ![128, 16, 7, 9]⟩
abbrev S128x16x7x3 : Shape := ⟨4, ![128, 16, 7, 3]⟩
abbrev S128x16x7x11 : Shape := ⟨4, ![128, 16, 7, 11]⟩
abbrev S128x16x7x1 : Shape := ⟨4, ![128, 16, 7, 1]⟩
abbrev S128x16x7x13 : Shape := ⟨4, ![128, 16, 7, 13]⟩
abbrev S128x16x7x15 : Shape := ⟨4, ![128, 16, 7, 15]⟩
abbrev S128x16x16x15 : Shape := ⟨4, ![128, 16, 16, 15]⟩
abbrev S128x3840 : Shape := ⟨2, ![128, 3840]⟩
abbrev S128x16x9x9 : Shape := ⟨4, ![128, 16, 9, 9]⟩
abbrev S128x16x9x7 : Shape := ⟨4, ![128, 16, 9, 7]⟩
abbrev S128x16x9x11 : Shape := ⟨4, ![128, 16, 9, 11]⟩
abbrev S128x16x9x5 : Shape := ⟨4, ![128, 16, 9, 5]⟩
abbrev S128x16x9x13 : Shape := ⟨4, ![128, 16, 9, 13]⟩
abbrev S128x16x9x3 : Shape := ⟨4, ![128, 16, 9, 3]⟩
abbrev S128x16x9x15 : Shape := ⟨4, ![128, 16, 9, 15]⟩
abbrev S128x16x9x1 : Shape := ⟨4, ![128, 16, 9, 1]⟩
abbrev S128x16x9x17 : Shape := ⟨4, ![128, 16, 9, 17]⟩
abbrev S128x16x16x17 : Shape := ⟨4, ![128, 16, 16, 17]⟩
abbrev S128x4352 : Shape := ⟨2, ![128, 4352]⟩
abbrev S128x9728 : Shape := ⟨2, ![128, 9728]⟩
abbrev S128x19968 : Shape := ⟨2, ![128, 19968]⟩
abbrev S128x28160 : Shape := ⟨2, ![128, 28160]⟩
abbrev S128x35840 : Shape := ⟨2, ![128, 35840]⟩
abbrev S128x47104 : Shape := ⟨2, ![128, 47104]⟩
abbrev S128x19200 : Shape := ⟨2, ![128, 19200]⟩
abbrev S128x160000 : Shape := ⟨2, ![128, 160000]⟩

abbrev nBuf : Space → Nat
  | .hbm => 409
  | .vmem => 0
  | .smem => 0
  | _ => 0

abbrev hbmTy0_0 (i : Nat) : BufTy := match i % 128 with
  | 0 => ⟨S128x400, .f32⟩
  | 1 => ⟨S128x400, .f32⟩
  | 2 => ⟨S1x1x1, .f32⟩
  | 3 => ⟨S1x3x3, .f32⟩
  | 4 => ⟨S1x5x5, .f32⟩
  | 5 => ⟨S1x7x7, .f32⟩
  | 6 => ⟨S1x9x9, .f32⟩
  | 7 => ⟨S3x1x3, .f32⟩
  | 8 => ⟨S3x3x1, .f32⟩
  | 9 => ⟨S3x3x3, .f32⟩
  | 10 => ⟨S3x3x5, .f32⟩
  | 11 => ⟨S3x5x3, .f32⟩
  | 12 => ⟨S3x5x5, .f32⟩
  | 13 => ⟨S3x5x7, .f32⟩
  | 14 => ⟨S3x7x5, .f32⟩
  | 15 => ⟨S3x7x7, .f32⟩
  | 16 => ⟨S3x7x9, .f32⟩
  | 17 => ⟨S3x9x7, .f32⟩
  | 18 => ⟨S3x9x9, .f32⟩
  | 19 => ⟨S3x9x11, .f32⟩
  | 20 => ⟨S5x1x5, .f32⟩
  | 21 => ⟨S5x3x3, .f32⟩
  | 22 => ⟨S5x3x5, .f32⟩
  | 23 => ⟨S5x3x7, .f32⟩
  | 24 => ⟨S5x5x1, .f32⟩
  | 25 => ⟨S5x5x3, .f32⟩
  | 26 => ⟨S5x5x5, .f32⟩
  | 27 => ⟨S5x5x7, .f32⟩
  | 28 => ⟨S5x5x9, .f32⟩
  | 29 => ⟨S5x7x3, .f32⟩
  | 30 => ⟨S5x7x5, .f32⟩
  | 31 => ⟨S5x7x7, .f32⟩
  | 32 => ⟨S5x7x9, .f32⟩
  | 33 => ⟨S5x7x11, .f32⟩
  | 34 => ⟨S5x9x5, .f32⟩
  | 35 => ⟨S5x9x7, .f32⟩
  | 36 => ⟨S5x9x9, .f32⟩
  | 37 => ⟨S5x9x11, .f32⟩
  | 38 => ⟨S5x9x13, .f32⟩
  | 39 => ⟨S7x1x7, .f32⟩
  | 40 => ⟨S7x3x5, .f32⟩
  | 41 => ⟨S7x3x7, .f32⟩
  | 42 => ⟨S7x3x9, .f32⟩
  | 43 => ⟨S7x5x3, .f32⟩
  | 44 => ⟨S7x5x5, .f32⟩
  | 45 => ⟨S7x5x7, .f32⟩
  | 46 => ⟨S7x5x9, .f32⟩
  | 47 => ⟨S7x5x11, .f32⟩
  | 48 => ⟨S7x7x1, .f32⟩
  | 49 => ⟨S7x7x3, .f32⟩
  | 50 => ⟨S7x7x5, .f32⟩
  | 51 => ⟨S7x7x7, .f32⟩
  | 52 => ⟨S7x7x9, .f32⟩
  | 53 => ⟨S7x7x11, .f32⟩
  | 54 => ⟨S7x7x13, .f32⟩
  | 55 => ⟨S7x9x3, .f32⟩
  | 56 => ⟨S7x9x5, .f32⟩
  | 57 => ⟨S7x9x7, .f32⟩
  | 58 => ⟨S7x9x9, .f32⟩
  | 59 => ⟨S7x9x11, .f32⟩
  | 60 => ⟨S7x9x13, .f32⟩
  | 61 => ⟨S7x9x15, .f32⟩
  | 62 => ⟨S9x1x9, .f32⟩
  | 63 => ⟨S9x3x7, .f32⟩
  | 64 => ⟨S9x3x9, .f32⟩
  | 65 => ⟨S9x3x11, .f32⟩
  | 66 => ⟨S9x5x5, .f32⟩
  | 67 => ⟨S9x5x7, .f32⟩
  | 68 => ⟨S9x5x9, .f32⟩
  | 69 => ⟨S9x5x11, .f32⟩
  | 70 => ⟨S9x5x13, .f32⟩
  | 71 => ⟨S9x7x3, .f32⟩
  | 72 => ⟨S9x7x5, .f32⟩
  | 73 => ⟨S9x7x7, .f32⟩
  | 74 => ⟨S9x7x9, .f32⟩
  | 75 => ⟨S9x7x11, .f32⟩
  | 76 => ⟨S9x7x13, .f32⟩
  | 77 => ⟨S9x7x15, .f32⟩
  | 78 => ⟨S9x9x1, .f32⟩
  | 79 => ⟨S9x9x3, .f32⟩
  | 80 => ⟨S9x9x5, .f32⟩
  | 81 => ⟨S9x9x7, .f32⟩
  | 82 => ⟨S9x9x9, .f32⟩
  | 83 => ⟨S9x9x11, .f32⟩
  | 84 => ⟨S9x9x13, .f32⟩
  | 85 => ⟨S9x9x15, .f32⟩
  | 86 => ⟨S9x9x17, .f32⟩
  | 87 => ⟨S128x16, .f32⟩
  | 88 => ⟨S128x16x1, .f32⟩
  | 89 => ⟨S128x16, .f32⟩
  | 90 => ⟨S128x16x1, .f32⟩
  | 91 => ⟨S128x16x1x1, .f32⟩
  | 92 => ⟨S128x16x16x1, .f32⟩
  | 93 => ⟨S128x256, .f32⟩
  | 94 => ⟨S128x48, .f32⟩
  | 95 => ⟨S128x16x3, .f32⟩
  | 96 => ⟨S128x16x1x3, .f32⟩
  | 97 => ⟨S128x16x16x3, .f32⟩
  | 98 => ⟨S128x768, .f32⟩
  | 99 => ⟨S128x80, .f32⟩
  | 100 => ⟨S128x16x5, .f32⟩
  | 101 => ⟨S128x16x1x5, .f32⟩
  | 102 => ⟨S128x16x16x5, .f32⟩
  | 103 => ⟨S128x1280, .f32⟩
  | 104 => ⟨S128x112, .f32⟩
  | 105 => ⟨S128x16x7, .f32⟩
  | 106 => ⟨S128x16x1x7, .f32⟩
  | 107 => ⟨S128x16x16x7, .f32⟩
  | 108 => ⟨S128x1792, .f32⟩
  | 109 => ⟨S128x144, .f32⟩
  | 110 => ⟨S128x16x9, .f32⟩
  | 111 => ⟨S128x16x1x9, .f32⟩
  | 112 => ⟨S128x16x16x9, .f32⟩
  | 113 => ⟨S128x2304, .f32⟩
  | 114 => ⟨S128x48, .f32⟩
  | 115 => ⟨S128x16x3, .f32⟩
  | 116 => ⟨S128x16, .f32⟩
  | 117 => ⟨S128x16x1, .f32⟩
  | 118 => ⟨S128x16x3x3, .f32⟩
  | 119 => ⟨S128x16x16x3, .f32⟩
  | 120 => ⟨S128x768, .f32⟩
  | 121 => ⟨S128x48, .f32⟩
  | 122 => ⟨S128x16x3, .f32⟩
  | 123 => ⟨S128x16x3x1, .f32⟩
  | 124 => ⟨S128x16x16x1, .f32⟩
  | 125 => ⟨S128x256, .f32⟩
  | 126 => ⟨S128x16x3x3, .f32⟩
  | 127 => ⟨S128x16x16x3, .f32⟩
  | _ => ⟨S128x400, .f32⟩

abbrev hbmTy0_1 (i : Nat) : BufTy := match i % 128 with
  | 0 => ⟨S128x768, .f32⟩
  | 1 => ⟨S128x16x3x5, .f32⟩
  | 2 => ⟨S128x16x16x5, .f32⟩
  | 3 => ⟨S128x1280, .f32⟩
  | 4 => ⟨S128x80, .f32⟩
  | 5 => ⟨S128x16x5, .f32⟩
  | 6 => ⟨S128x16x3x3, .f32⟩
  | 7 => ⟨S128x16x16x3, .f32⟩
  | 8 => ⟨S128x768, .f32⟩
  | 9 => ⟨S128x16x3x5, .f32⟩
  | 10 => ⟨S128x16x16x5, .f32⟩
  | 11 => ⟨S128x1280, .f32⟩
  | 12 => ⟨S128x16x3x7, .f32⟩
  | 13 => ⟨S128x16x16x7, .f32⟩
  | 14 => ⟨S128x1792, .f32⟩
  | 15 => ⟨S128x112, .f32⟩
  | 16 => ⟨S128x16x7, .f32⟩
  | 17 => ⟨S128x16x3x5, .f32⟩
  | 18 => ⟨S128x16x16x5, .f32⟩
  | 19 => ⟨S128x1280, .f32⟩
  | 20 => ⟨S128x16x3x7, .f32⟩
  | 21 => ⟨S128x16x16x7, .f32⟩
  | 22 => ⟨S128x1792, .f32⟩
  | 23 => ⟨S128x16x3x9, .f32⟩
  | 24 => ⟨S128x16x16x9, .f32⟩
  | 25 => ⟨S128x2304, .f32⟩
  | 26 => ⟨S128x144, .f32⟩
  | 27 => ⟨S128x16x9, .f32⟩
  | 28 => ⟨S128x16x3x7, .f32⟩
  | 29 => ⟨S128x16x16x7, .f32⟩
  | 30 => ⟨S128x1792, .f32⟩
  | 31 => ⟨S128x16x3x9, .f32⟩
  | 32 => ⟨S128x16x16x9, .f32⟩
  | 33 => ⟨S128x2304, .f32⟩
  | 34 => ⟨S128x16x3x11, .f32⟩
  | 35 => ⟨S128x16x16x11, .f32⟩
  | 36 => ⟨S128x2816, .f32⟩
  | 37 => ⟨S128x80, .f32⟩
  | 38 => ⟨S128x16x5, .f32⟩
  | 39 => ⟨S128x16, .f32⟩
  | 40 => ⟨S128x16x1, .f32⟩
  | 41 => ⟨S128x16x5x5, .f32⟩
  | 42 => ⟨S128x16x16x5, .f32⟩
  | 43 => ⟨S128x1280, .f32⟩
  | 44 => ⟨S128x48, .f32⟩
  | 45 => ⟨S128x16x3, .f32⟩
  | 46 => ⟨S128x16x5x3, .f32⟩
  | 47 => ⟨S128x16x16x3, .f32⟩
  | 48 => ⟨S128x768, .f32⟩
  | 49 => ⟨S128x16x5x5, .f32⟩
  | 50 => ⟨S128x16x16x5, .f32⟩
  | 51 => ⟨S128x1280, .f32⟩
  | 52 => ⟨S128x16x5x7, .f32⟩
  | 53 => ⟨S128x16x16x7, .f32⟩
  | 54 => ⟨S128x1792, .f32⟩
  | 55 => ⟨S128x80, .f32⟩
  | 56 => ⟨S128x16x5, .f32⟩
  | 57 => ⟨S128x16x5x1, .f32⟩
  | 58 => ⟨S128x16x16x1, .f32⟩
  | 59 => ⟨S128x256, .f32⟩
  | 60 => ⟨S128x16x5x3, .f32⟩
  | 61 => ⟨S128x16x16x3, .f32⟩
  | 62 => ⟨S128x768, .f32⟩
  | 63 => ⟨S128x16x5x5, .f32⟩
  | 64 => ⟨S128x16x16x5, .f32⟩
  | 65 => ⟨S128x1280, .f32⟩
  | 66 => ⟨S128x16x5x7, .f32⟩
  | 67 => ⟨S128x16x16x7, .f32⟩
  | 68 => ⟨S128x1792, .f32⟩
  | 69 => ⟨S128x16x5x9, .f32⟩
  | 70 => ⟨S128x16x16x9, .f32⟩
  | 71 => ⟨S128x2304, .f32⟩
  | 72 => ⟨S128x112, .f32⟩
  | 73 => ⟨S128x16x7, .f32⟩
  | 74 => ⟨S128x16x5x3, .f32⟩
  | 75 => ⟨S128x16x16x3, .f32⟩
  | 76 => ⟨S128x768, .f32⟩
  | 77 => ⟨S128x16x5x5, .f32⟩
  | 78 => ⟨S128x16x16x5, .f32⟩
  | 79 => ⟨S128x1280, .f32⟩
  | 80 => ⟨S128x16x5x7, .f32⟩
  | 81 => ⟨S128x16x16x7, .f32⟩
  | 82 => ⟨S128x1792, .f32⟩
  | 83 => ⟨S128x16x5x9, .f32⟩
  | 84 => ⟨S128x16x16x9, .f32⟩
  | 85 => ⟨S128x2304, .f32⟩
  | 86 => ⟨S128x16x5x11, .f32⟩
  | 87 => ⟨S128x16x16x11, .f32⟩
  | 88 => ⟨S128x2816, .f32⟩
  | 89 => ⟨S128x144, .f32⟩
  | 90 => ⟨S128x16x9, .f32⟩
  | 91 => ⟨S128x16x5x5, .f32⟩
  | 92 => ⟨S128x16x16x5, .f32⟩
  | 93 => ⟨S128x1280, .f32⟩
  | 94 => ⟨S128x16x5x7, .f32⟩
  | 95 => ⟨S128x16x16x7, .f32⟩
  | 96 => ⟨S128x1792, .f32⟩
  | 97 => ⟨S128x16x5x9, .f32⟩
  | 98 => ⟨S128x16x16x9, .f32⟩
  | 99 => ⟨S128x2304, .f32⟩
  | 100 => ⟨S128x16x5x11, .f32⟩
  | 101 => ⟨S128x16x16x11, .f32⟩
  | 102 => ⟨S128x2816, .f32⟩
  | 103 => ⟨S128x16x5x13, .f32⟩
  | 104 => ⟨S128x16x16x13, .f32⟩
  | 105 => ⟨S128x3328, .f32⟩
  | 106 => ⟨S128x112, .f32⟩
  | 107 => ⟨S128x16x7, .f32⟩
  | 108 => ⟨S128x16, .f32⟩
  | 109 => ⟨S128x16x1, .f32⟩
  | 110 => ⟨S128x16x7x7, .f32⟩
  | 111 => ⟨S128x16x16x7, .f32⟩
  | 112 => ⟨S128x1792, .f32⟩
  | 113 => ⟨S128x48, .f32⟩
  | 114 => ⟨S128x16x3, .f32⟩
  | 115 => ⟨S128x16x7x5, .f32⟩
  | 116 => ⟨S128x16x16x5, .f32⟩
  | 117 => ⟨S128x1280, .f32⟩
  | 118 => ⟨S128x16x7x7, .f32⟩
  | 119 => ⟨S128x16x16x7, .f32⟩
  | 120 => ⟨S128x1792, .f32⟩
  | 121 => ⟨S128x16x7x9, .f32⟩
  | 122 => ⟨S128x16x16x9, .f32⟩
  | 123 => ⟨S128x2304, .f32⟩
  | 124 => ⟨S128x80, .f32⟩
  | 125 => ⟨S128x16x5, .f32⟩
  | 126 => ⟨S128x16x7x3, .f32⟩
  | 127 => ⟨S128x16x16x3, .f32⟩
  | _ => ⟨S128x400, .f32⟩

abbrev hbmTy0_2 (i : Nat) : BufTy := match i % 128 with
  | 0 => ⟨S128x768, .f32⟩
  | 1 => ⟨S128x16x7x5, .f32⟩
  | 2 => ⟨S128x16x16x5, .f32⟩
  | 3 => ⟨S128x1280, .f32⟩
  | 4 => ⟨S128x16x7x7, .f32⟩
  | 5 => ⟨S128x16x16x7, .f32⟩
  | 6 => ⟨S128x1792, .f32⟩
  | 7 => ⟨S128x16x7x9, .f32⟩
  | 8 => ⟨S128x16x16x9, .f32⟩
  | 9 => ⟨S128x2304, .f32⟩
  | 10 => ⟨S128x16x7x11, .f32⟩
  | 11 => ⟨S128x16x16x11, .f32⟩
  | 12 => ⟨S128x2816, .f32⟩
  | 13 => ⟨S128x112, .f32⟩
  | 14 => ⟨S128x16x7, .f32⟩
  | 15 => ⟨S128x16x7x1, .f32⟩
  | 16 => ⟨S128x16x16x1, .f32⟩
  | 17 => ⟨S128x256, .f32⟩
  | 18 => ⟨S128x16x7x3, .f32⟩
  | 19 => ⟨S128x16x16x3, .f32⟩
  | 20 => ⟨S128x768, .f32⟩
  | 21 => ⟨S128x16x7x5, .f32⟩
  | 22 => ⟨S128x16x16x5, .f32⟩
  | 23 => ⟨S128x1280, .f32⟩
  | 24 => ⟨S128x16x7x7, .f32⟩
  | 25 => ⟨S128x16x16x7, .f32⟩
  | 26 => ⟨S128x1792, .f32⟩
  | 27 => ⟨S128x16x7x9, .f32⟩
  | 28 => ⟨S128x16x16x9, .f32⟩
  | 29 => ⟨S128x2304, .f32⟩
  | 30 => ⟨S128x16x7x11, .f32⟩
  | 31 => ⟨S128x16x16x11, .f32⟩
  | 32 => ⟨S128x2816, .f32⟩
  | 33 => ⟨S128x16x7x13, .f32⟩
  | 34 => ⟨S128x16x16x13, .f32⟩
  | 35 => ⟨S128x3328, .f32⟩
  | 36 => ⟨S128x144, .f32⟩
  | 37 => ⟨S128x16x9, .f32⟩
  | 38 => ⟨S128x16x7x3, .f32⟩
  | 39 => ⟨S128x16x16x3, .f32⟩
  | 40 => ⟨S128x768, .f32⟩
  | 41 => ⟨S128x16x7x5, .f32⟩
  | 42 => ⟨S128x16x16x5, .f32⟩
  | 43 => ⟨S128x1280, .f32⟩
  | 44 => ⟨S128x16x7x7, .f32⟩
  | 45 => ⟨S128x16x16x7, .f32⟩
  | 46 => ⟨S128x1792, .f32⟩
  | 47 => ⟨S128x16x7x9, .f32⟩
  | 48 => ⟨S128x16x16x9, .f32⟩
  | 49 => ⟨S128x2304, .f32⟩
  | 50 => ⟨S128x16x7x11, .f32⟩
  | 51 => ⟨S128x16x16x11, .f32⟩
  | 52 => ⟨S128x2816, .f32⟩
  | 53 => ⟨S128x16x7x13, .f32⟩
  | 54 => ⟨S128x16x16x13, .f32⟩
  | 55 => ⟨S128x3328, .f32⟩
  | 56 => ⟨S128x16x7x15, .f32⟩
  | 57 => ⟨S128x16x16x15, .f32⟩
  | 58 => ⟨S128x3840, .f32⟩
  | 59 => ⟨S128x144, .f32⟩
  | 60 => ⟨S128x16x9, .f32⟩
  | 61 => ⟨S128x16, .f32⟩
  | 62 => ⟨S128x16x1, .f32⟩
  | 63 => ⟨S128x16x9x9, .f32⟩
  | 64 => ⟨S128x16x16x9, .f32⟩
  | 65 => ⟨S128x2304, .f32⟩
  | 66 => ⟨S128x48, .f32⟩
  | 67 => ⟨S128x16x3, .f32⟩
  | 68 => ⟨S128x16x9x7, .f32⟩
  | 69 => ⟨S128x16x16x7, .f32⟩
  | 70 => ⟨S128x1792, .f32⟩
  | 71 => ⟨S128x16x9x9, .f32⟩
  | 72 => ⟨S128x16x16x9, .f32⟩
  | 73 => ⟨S128x2304, .f32⟩
  | 74 => ⟨S128x16x9x11, .f32⟩
  | 75 => ⟨S128x16x16x11, .f32⟩
  | 76 => ⟨S128x2816, .f32⟩
  | 77 => ⟨S128x80, .f32⟩
  | 78 => ⟨S128x16x5, .f32⟩
  | 79 => ⟨S128x16x9x5, .f32⟩
  | 80 => ⟨S128x16x16x5, .f32⟩
  | 81 => ⟨S128x1280, .f32⟩
  | 82 => ⟨S128x16x9x7, .f32⟩
  | 83 => ⟨S128x16x16x7, .f32⟩
  | 84 => ⟨S128x1792, .f32⟩
  | 85 => ⟨S128x16x9x9, .f32⟩
  | 86 => ⟨S128x16x16x9, .f32⟩
  | 87 => ⟨S128x2304, .f32⟩
  | 88 => ⟨S128x16x9x11, .f32⟩
  | 89 => ⟨S128x16x16x11, .f32⟩
  | 90 => ⟨S128x2816, .f32⟩
  | 91 => ⟨S128x16x9x13, .f32⟩
  | 92 => ⟨S128x16x16x13, .f32⟩
  | 93 => ⟨S128x3328, .f32⟩
  | 94 => ⟨S128x112, .f32⟩
  | 95 => ⟨S128x16x7, .f32⟩
  | 96 => ⟨S128x16x9x3, .f32⟩
  | 97 => ⟨S128x16x16x3, .f32⟩
  | 98 => ⟨S128x768, .f32⟩
  | 99 => ⟨S128x16x9x5, .f32⟩
  | 100 => ⟨S128x16x16x5, .f32⟩
  | 101 => ⟨S128x1280, .f32⟩
  | 102 => ⟨S128x16x9x7, .f32⟩
  | 103 => ⟨S128x16x16x7, .f32⟩
  | 104 => ⟨S128x1792, .f32⟩
  | 105 => ⟨S128x16x9x9, .f32⟩
  | 106 => ⟨S128x16x16x9, .f32⟩
  | 107 => ⟨S128x2304, .f32⟩
  | 108 => ⟨S128x16x9x11, .f32⟩
  | 109 => ⟨S128x16x16x11, .f32⟩
  | 110 => ⟨S128x2816, .f32⟩
  | 111 => ⟨S128x16x9x13, .f32⟩
  | 112 => ⟨S128x16x16x13, .f32⟩
  | 113 => ⟨S128x3328, .f32⟩
  | 114 => ⟨S128x16x9x15, .f32⟩
  | 115 => ⟨S128x16x16x15, .f32⟩
  | 116 => ⟨S128x3840, .f32⟩
  | 117 => ⟨S128x144, .f32⟩
  | 118 => ⟨S128x16x9, .f32⟩
  | 119 => ⟨S128x16x9x1, .f32⟩
  | 120 => ⟨S128x16x16x1, .f32⟩
  | 121 => ⟨S128x256, .f32⟩
  | 122 => ⟨S128x16x9x3, .f32⟩
  | 123 => ⟨S128x16x16x3, .f32⟩
  | 124 => ⟨S128x768, .f32⟩
  | 125 => ⟨S128x16x9x5, .f32⟩
  | 126 => ⟨S128x16x16x5, .f32⟩
  | 127 => ⟨S128x1280, .f32⟩
  | _ => ⟨S128x400, .f32⟩

abbrev hbmTy0_3 (i : Nat) : BufTy := match i % 128 with
  | 0 => ⟨S128x16x9x7, .f32⟩
  | 1 => ⟨S128x16x16x7, .f32⟩
  | 2 => ⟨S128x1792, .f32⟩
  | 3 => ⟨S128x16x9x9, .f32⟩
  | 4 => ⟨S128x16x16x9, .f32⟩
  | 5 => ⟨S128x2304, .f32⟩
  | 6 => ⟨S128x16x9x11, .f32⟩
  | 7 => ⟨S128x16x16x11, .f32⟩
  | 8 => ⟨S128x2816, .f32⟩
  | 9 => ⟨S128x16x9x13, .f32⟩
  | 10 => ⟨S128x16x16x13, .f32⟩
  | 11 => ⟨S128x3328, .f32⟩
  | 12 => ⟨S128x16x9x15, .f32⟩
  | 13 => ⟨S128x16x16x15, .f32⟩
  | 14 => ⟨S128x3840, .f32⟩
  | 15 => ⟨S128x16x9x17, .f32⟩
  | 16 => ⟨S128x16x16x17, .f32⟩
  | 17 => ⟨S128x4352, .f32⟩
  | 18 => ⟨S128x9728, .f32⟩
  | 19 => ⟨S128x19968, .f32⟩
  | 20 => ⟨S128x28160, .f32⟩
  | 21 => ⟨S128x35840, .f32⟩
  | 22 => ⟨S128x47104, .f32⟩
  | 23 => ⟨S128x19200, .f32⟩
  | 24 => ⟨S128x160000, .f32⟩
  | _ => ⟨S128x400, .f32⟩

abbrev hbmTy (i : Nat) : BufTy := match i / 128 with
  | 0 => hbmTy0_0 i
  | 1 => hbmTy0_1 i
  | 2 => hbmTy0_2 i
  | 3 => hbmTy0_3 i
  | _ => ⟨S128x400, .f32⟩

abbrev bufTy : (tb : Table) → Fin (tcTables nBuf tb) → BufTy
  | .hbm, ⟨i, _⟩ => hbmTy i
  | _, _ => ⟨S128x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_cst_4 : Ref sig .tc := ⟨.hbm, 7, rfl⟩
abbrev main_cst_5 : Ref sig .tc := ⟨.hbm, 8, rfl⟩
abbrev main_cst_6 : Ref sig .tc := ⟨.hbm, 9, rfl⟩
abbrev main_cst_7 : Ref sig .tc := ⟨.hbm, 10, rfl⟩
abbrev main_cst_8 : Ref sig .tc := ⟨.hbm, 11, rfl⟩
abbrev main_cst_9 : Ref sig .tc := ⟨.hbm, 12, rfl⟩
abbrev main_cst_10 : Ref sig .tc := ⟨.hbm, 13, rfl⟩
abbrev main_cst_11 : Ref sig .tc := ⟨.hbm, 14, rfl⟩
abbrev main_cst_12 : Ref sig .tc := ⟨.hbm, 15, rfl⟩
abbrev main_cst_13 : Ref sig .tc := ⟨.hbm, 16, rfl⟩
abbrev main_cst_14 : Ref sig .tc := ⟨.hbm, 17, rfl⟩
abbrev main_cst_15 : Ref sig .tc := ⟨.hbm, 18, rfl⟩
abbrev main_cst_16 : Ref sig .tc := ⟨.hbm, 19, rfl⟩
abbrev main_cst_17 : Ref sig .tc := ⟨.hbm, 20, rfl⟩
abbrev main_cst_18 : Ref sig .tc := ⟨.hbm, 21, rfl⟩
abbrev main_cst_19 : Ref sig .tc := ⟨.hbm, 22, rfl⟩
abbrev main_cst_20 : Ref sig .tc := ⟨.hbm, 23, rfl⟩
abbrev main_cst_21 : Ref sig .tc := ⟨.hbm, 24, rfl⟩
abbrev main_cst_22 : Ref sig .tc := ⟨.hbm, 25, rfl⟩
abbrev main_cst_23 : Ref sig .tc := ⟨.hbm, 26, rfl⟩
abbrev main_cst_24 : Ref sig .tc := ⟨.hbm, 27, rfl⟩
abbrev main_cst_25 : Ref sig .tc := ⟨.hbm, 28, rfl⟩
abbrev main_cst_26 : Ref sig .tc := ⟨.hbm, 29, rfl⟩
abbrev main_cst_27 : Ref sig .tc := ⟨.hbm, 30, rfl⟩
abbrev main_cst_28 : Ref sig .tc := ⟨.hbm, 31, rfl⟩
abbrev main_cst_29 : Ref sig .tc := ⟨.hbm, 32, rfl⟩
abbrev main_cst_30 : Ref sig .tc := ⟨.hbm, 33, rfl⟩
abbrev main_cst_31 : Ref sig .tc := ⟨.hbm, 34, rfl⟩
abbrev main_cst_32 : Ref sig .tc := ⟨.hbm, 35, rfl⟩
abbrev main_cst_33 : Ref sig .tc := ⟨.hbm, 36, rfl⟩
abbrev main_cst_34 : Ref sig .tc := ⟨.hbm, 37, rfl⟩
abbrev main_cst_35 : Ref sig .tc := ⟨.hbm, 38, rfl⟩
abbrev main_cst_36 : Ref sig .tc := ⟨.hbm, 39, rfl⟩
abbrev main_cst_37 : Ref sig .tc := ⟨.hbm, 40, rfl⟩
abbrev main_cst_38 : Ref sig .tc := ⟨.hbm, 41, rfl⟩
abbrev main_cst_39 : Ref sig .tc := ⟨.hbm, 42, rfl⟩
abbrev main_cst_40 : Ref sig .tc := ⟨.hbm, 43, rfl⟩
abbrev main_cst_41 : Ref sig .tc := ⟨.hbm, 44, rfl⟩
abbrev main_cst_42 : Ref sig .tc := ⟨.hbm, 45, rfl⟩
abbrev main_cst_43 : Ref sig .tc := ⟨.hbm, 46, rfl⟩
abbrev main_cst_44 : Ref sig .tc := ⟨.hbm, 47, rfl⟩
abbrev main_cst_45 : Ref sig .tc := ⟨.hbm, 48, rfl⟩
abbrev main_cst_46 : Ref sig .tc := ⟨.hbm, 49, rfl⟩
abbrev main_cst_47 : Ref sig .tc := ⟨.hbm, 50, rfl⟩
abbrev main_cst_48 : Ref sig .tc := ⟨.hbm, 51, rfl⟩
abbrev main_cst_49 : Ref sig .tc := ⟨.hbm, 52, rfl⟩
abbrev main_cst_50 : Ref sig .tc := ⟨.hbm, 53, rfl⟩
abbrev main_cst_51 : Ref sig .tc := ⟨.hbm, 54, rfl⟩
abbrev main_cst_52 : Ref sig .tc := ⟨.hbm, 55, rfl⟩
abbrev main_cst_53 : Ref sig .tc := ⟨.hbm, 56, rfl⟩
abbrev main_cst_54 : Ref sig .tc := ⟨.hbm, 57, rfl⟩
abbrev main_cst_55 : Ref sig .tc := ⟨.hbm, 58, rfl⟩
abbrev main_cst_56 : Ref sig .tc := ⟨.hbm, 59, rfl⟩
abbrev main_cst_57 : Ref sig .tc := ⟨.hbm, 60, rfl⟩
abbrev main_cst_58 : Ref sig .tc := ⟨.hbm, 61, rfl⟩
abbrev main_cst_59 : Ref sig .tc := ⟨.hbm, 62, rfl⟩
abbrev main_cst_60 : Ref sig .tc := ⟨.hbm, 63, rfl⟩
abbrev main_cst_61 : Ref sig .tc := ⟨.hbm, 64, rfl⟩
abbrev main_cst_62 : Ref sig .tc := ⟨.hbm, 65, rfl⟩
abbrev main_cst_63 : Ref sig .tc := ⟨.hbm, 66, rfl⟩
abbrev main_cst_64 : Ref sig .tc := ⟨.hbm, 67, rfl⟩
abbrev main_cst_65 : Ref sig .tc := ⟨.hbm, 68, rfl⟩
abbrev main_cst_66 : Ref sig .tc := ⟨.hbm, 69, rfl⟩
abbrev main_cst_67 : Ref sig .tc := ⟨.hbm, 70, rfl⟩
abbrev main_cst_68 : Ref sig .tc := ⟨.hbm, 71, rfl⟩
abbrev main_cst_69 : Ref sig .tc := ⟨.hbm, 72, rfl⟩
abbrev main_cst_70 : Ref sig .tc := ⟨.hbm, 73, rfl⟩
abbrev main_cst_71 : Ref sig .tc := ⟨.hbm, 74, rfl⟩
abbrev main_cst_72 : Ref sig .tc := ⟨.hbm, 75, rfl⟩
abbrev main_cst_73 : Ref sig .tc := ⟨.hbm, 76, rfl⟩
abbrev main_cst_74 : Ref sig .tc := ⟨.hbm, 77, rfl⟩
abbrev main_cst_75 : Ref sig .tc := ⟨.hbm, 78, rfl⟩
abbrev main_cst_76 : Ref sig .tc := ⟨.hbm, 79, rfl⟩
abbrev main_cst_77 : Ref sig .tc := ⟨.hbm, 80, rfl⟩
abbrev main_cst_78 : Ref sig .tc := ⟨.hbm, 81, rfl⟩
abbrev main_cst_79 : Ref sig .tc := ⟨.hbm, 82, rfl⟩
abbrev main_cst_80 : Ref sig .tc := ⟨.hbm, 83, rfl⟩
abbrev main_cst_81 : Ref sig .tc := ⟨.hbm, 84, rfl⟩
abbrev main_cst_82 : Ref sig .tc := ⟨.hbm, 85, rfl⟩
abbrev main_cst_83 : Ref sig .tc := ⟨.hbm, 86, rfl⟩
abbrev main_v0 : Ref sig .tc := ⟨.hbm, 87, rfl⟩
abbrev main_v1 : Ref sig .tc := ⟨.hbm, 88, rfl⟩
abbrev main_v2 : Ref sig .tc := ⟨.hbm, 89, rfl⟩
abbrev main_v3 : Ref sig .tc := ⟨.hbm, 90, rfl⟩
abbrev main_v4 : Ref sig .tc := ⟨.hbm, 91, rfl⟩
abbrev main_v5 : Ref sig .tc := ⟨.hbm, 92, rfl⟩
abbrev main_v6 : Ref sig .tc := ⟨.hbm, 93, rfl⟩
abbrev main_v7 : Ref sig .tc := ⟨.hbm, 94, rfl⟩
abbrev main_v8 : Ref sig .tc := ⟨.hbm, 95, rfl⟩
abbrev main_v9 : Ref sig .tc := ⟨.hbm, 96, rfl⟩
abbrev main_v10 : Ref sig .tc := ⟨.hbm, 97, rfl⟩
abbrev main_v11 : Ref sig .tc := ⟨.hbm, 98, rfl⟩
abbrev main_v12 : Ref sig .tc := ⟨.hbm, 99, rfl⟩
abbrev main_v13 : Ref sig .tc := ⟨.hbm, 100, rfl⟩
abbrev main_v14 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩

abbrev nD : Nat := 1
abbrev τ : Topo := Topo.v7x

variable {F : FTy → Type} [FloatOps F]
-- ==== Proof.Plan.lean ====
/-
  The table the kernel is unrolled from: for each of the 85 output segments, where its two input irreps start, the
  width `K1 + 1` of its output irrep, and, row by row of the first irrep, the nonzero Clebsch-Gordan numbers as
  pairs (index into the second irrep, bit pattern of the number), one list for each output component. The segments
  are listed in the order of the output array, grouped into the blocks that leave for it in one copy.
-/
module

@[expose] public section

namespace TP

/-- One row `i` of a segment: the indices into the second irrep that the kernel loads for the first time here, and
    the nonzero numbers `C[i, j, k]`, one list of pairs `(j, word)` for each `k`. -/
structure Row where
  news : List Nat
  cols : List (List (Nat × Nat))

/-- One segment of the output: the first rows of its two irreps in the transposed inputs, its number of output
    components less one, and its rows (the first apart, for there is always one). -/
structure Seg where
  o1 : Nat
  o2 : Nat
  K1 : Nat
  row0 : Row
  rows : List Row

def seg0 : Seg := ⟨0,0,0,⟨[0],[[(0,1065353216)]]⟩,[]⟩
def seg1 : Seg := ⟨16,16,0,⟨[0],[[(0,1058262330)]]⟩,[⟨[1],[[(1,1058262330)]]⟩,
  ⟨[2],[[(2,1058262330)]]⟩]⟩
def seg2 : Seg := ⟨64,64,0,⟨[0],[[(0,1055193390)]]⟩,[⟨[1],[[(1,1055193390)]]⟩,
  ⟨[2],[[(2,1055193390)]]⟩,
  ⟨[3],[[(3,1055193390)]]⟩,
  ⟨[4],[[(4,1055193390)]]⟩]⟩
def seg3 : Seg := ⟨144,144,0,⟨[0],[[(0,1052869775)]]⟩,[⟨[1],[[(1,1052869775)]]⟩,
  ⟨[2],[[(2,1052869775)]]⟩,
  ⟨[3],[[(3,1052869775)]]⟩,
  ⟨[4],[[(4,1052869775)]]⟩,
  ⟨[5],[[(5,1052869775)]]⟩,
  ⟨[6],[[(6,1052869775)]]⟩]⟩
def seg4 : Seg := ⟨256,256,0,⟨[0],[[(0,1051372203)]]⟩,[⟨[1],[[(1,1051372203)]]⟩,
  ⟨[2],[[(2,1051372203)]]⟩,
  ⟨[3],[[(3,1051372203)]]⟩,
  ⟨[4],[[(4,1051372203)]]⟩,
  ⟨[5],[[(5,1051372203)]]⟩,
  ⟨[6],[[(6,1051372203)]]⟩,
  ⟨[7],[[(7,1051372203)]]⟩,
  ⟨[8],[[(8,1051372203)]]⟩]⟩
def seg5 : Seg := ⟨0,16,2,⟨[0,1,2],[[(0,1065353216)],[(1,1065353216)],[(2,1065353216)]]⟩,[]⟩
def seg6 : Seg := ⟨16,0,2,⟨[0],[[(0,1065353216)],[],[]]⟩,[⟨[],[[],[(0,1065353216)],[]]⟩,
  ⟨[],[[],[],[(0,1065353216)]]⟩]⟩
def seg7 : Seg := ⟨16,64,2,⟨[0,1,2,4],[[(2,3198281883),(4,3205248908)],[(1,1057765260)],[(0,1057765260)]]⟩,[⟨[3],[[(1,1057765260)],[(2,1059186843)],[(3,1057765260)]]⟩,
  ⟨[],[[(0,1057765260)],[(3,1057765260)],[(2,3198281883),(4,1057765260)]]⟩]⟩
def seg8 : Seg := ⟨64,16,2,⟨[0,2],[[(2,1057765260)],[],[(0,1057765260)]]⟩,[⟨[1],[[(1,1057765260)],[(0,1057765260)],[]]⟩,
  ⟨[],[[(0,3198281883)],[(1,1059186843)],[(2,3198281883)]]⟩,
  ⟨[],[[],[(2,1057765260)],[(1,1057765260)]]⟩,
  ⟨[],[[(0,3205248908)],[],[(2,1057765260)]]⟩]⟩
def seg9 : Seg := ⟨64,144,2,⟨[0,1,2,4,6],[[(4,3186935911),(6,3203203724)],[(1,1052869775)],[(0,1055720076),(2,3186935911)]]⟩,[⟨[3,5],[[(3,3197494772),(5,3200353423)],[(2,1056229479)],[(1,1052869775)]]⟩,
  ⟨[],[[(2,1054080247)],[(3,1057083601)],[(4,1054080247)]]⟩,
  ⟨[],[[(1,1052869775)],[(4,1056229479)],[(3,3197494772),(5,1052869775)]]⟩,
  ⟨[],[[(0,1055720076),(2,1039452263)],[(5,1052869775)],[(4,3186935911),(6,1055720076)]]⟩]⟩
def seg10 : Seg := ⟨144,64,2,⟨[0,4],[[(4,1055720076)],[],[(0,1055720076)]]⟩,[⟨[1,3],[[(3,1052869775)],[(0,1052869775)],[(1,1052869775)]]⟩,
  ⟨[2],[[(2,1054080247),(4,1039452263)],[(1,1056229479)],[(0,3186935911)]]⟩,
  ⟨[],[[(1,3197494772)],[(2,1057083601)],[(3,3197494772)]]⟩,
  ⟨[],[[(0,3186935911)],[(3,1056229479)],[(2,1054080247),(4,3186935911)]]⟩,
  ⟨[],[[(1,3200353423)],[(4,1052869775)],[(3,1052869775)]]⟩,
  ⟨[],[[(0,3203203724)],[],[(4,1055720076)]]⟩]⟩
def seg11 : Seg := ⟨144,256,2,⟨[0,1,2,6,8],[[(6,3181248947),(8,3201369580)],[(1,1049873722)],[(0,1053885932),(2,3181248947)]]⟩,[⟨[3,5,7],[[(5,3188250231),(7,3199534323)],[(2,1052869775)],[(1,1052050675),(3,3188250231)]]⟩,
  ⟨[4],[[(4,3196638839),(6,3197697344)],[(3,1054366727)],[(2,1050213696)]]⟩,
  ⟨[],[[(3,1051764771)],[(4,1054831747)],[(5,1051764771)]]⟩,
  ⟨[],[[(2,1050213696)],[(5,1054366727)],[(4,3196638839),(6,1050213696)]]⟩,
  ⟨[],[[(1,1052050675),(3,1040766583)],[(6,1052869775)],[(5,3188250231),(7,1052050675)]]⟩,
  ⟨[],[[(0,1053885932),(2,1033765299)],[(7,1049873722)],[(6,3181248947),(8,1053885932)]]⟩]⟩
def seg12 : Seg := ⟨256,144,2,⟨[0,6],[[(6,1053885932)],[],[(0,1053885932)]]⟩,[⟨[1,5],[[(5,1052050675)],[(0,1049873722)],[(1,1052050675)]]⟩,
  ⟨[2,4],[[(4,1050213696),(6,1033765299)],[(1,1052869775)],[(0,3181248947),(2,1050213696)]]⟩,
  ⟨[3],[[(3,1051764771),(5,1040766583)],[(2,1054366727)],[(1,3188250231)]]⟩,
  ⟨[],[[(2,3196638839)],[(3,1054831747)],[(4,3196638839)]]⟩,
  ⟨[],[[(1,3188250231)],[(4,1054366727)],[(3,1051764771),(5,3188250231)]]⟩,
  ⟨[],[[(0,3181248947),(2,3197697344)],[(5,1052869775)],[(4,1050213696),(6,3181248947)]]⟩,
  ⟨[],[[(1,3199534323)],[(6,1049873722)],[(5,1052050675)]]⟩,
  ⟨[],[[(0,3201369580)],[],[(6,1053885932)]]⟩]⟩
def seg13 : Seg := ⟨16,16,2,⟨[1,2],[[],[(2,3207922931)],[(1,1060439283)]]⟩,[⟨[0],[[(2,1060439283)],[],[(0,3207922931)]]⟩,
  ⟨[],[[(1,3207922931)],[(0,1060439283)],[]]⟩]⟩
def seg14 : Seg := ⟨64,64,2,⟨[1,3,4],[[(1,3198281883)],[(4,3206670491)],[(3,1050798235)]]⟩,[⟨[0,2],[[(0,1050798235)],[(3,3198281883)],[(2,1057765260),(4,1050798235)]]⟩,
  ⟨[],[[(3,1057765260)],[],[(1,3205248908)]]⟩,
  ⟨[],[[(2,3205248908),(4,1050798235)],[(1,1050798235)],[(0,3198281883)]]⟩,
  ⟨[],[[(3,3198281883)],[(0,1059186843)],[(1,3198281883)]]⟩]⟩
def seg15 : Seg := ⟨144,144,2,⟨[1,5,6],[[(1,3194815116)],[(6,3205571435)],[(5,1047331468)]]⟩,[⟨[0,2,4],[[(0,1047331468),(2,3197697344)],[(5,3200353423)],[(4,1050213696),(6,1047331468)]]⟩,
  ⟨[3],[[(1,1050213696)],[(4,3191964815)],[(3,1055720076),(5,1050213696)]]⟩,
  ⟨[],[[(4,1055720076)],[],[(2,3203203724)]]⟩,
  ⟨[],[[(3,3203203724),(5,1050213696)],[(2,1044481167)],[(1,3197697344)]]⟩,
  ⟨[],[[(4,3197697344),(6,1047331468)],[(1,1052869775)],[(0,3194815116),(2,3197697344)]]⟩,
  ⟨[],[[(5,3194815116)],[(0,1058087787)],[(1,3194815116)]]⟩]⟩
def seg16 : Seg := ⟨256,256,2,⟨[1,7,8],[[(1,3191534778)],[(8,3204723365)],[(7,1044051130)]]⟩,[⟨[0,2,6],[[(0,1044051130),(2,3195490763)],[(7,3200666616)],[(6,1048007115),(8,1044051130)]]⟩,
  ⟨[3,5],[[(1,1048007115),(3,3196860300)],[(6,3196334757)],[(5,1049376652),(7,1048007115)]]⟩,
  ⟨[4],[[(2,1049376652)],[(5,3187946149)],[(4,1053885932),(6,1049376652)]]⟩,
  ⟨[],[[(5,1053885932)],[],[(3,3201369580)]]⟩,
  ⟨[],[[(4,3201369580),(6,1049376652)],[(3,1040462501)],[(2,3196860300)]]⟩,
  ⟨[],[[(5,3196860300),(7,1048007115)],[(2,1048851109)],[(1,3195490763),(3,3196860300)]]⟩,
  ⟨[],[[(6,3195490763),(8,1044051130)],[(1,1053182968)],[(0,3191534778),(2,3195490763)]]⟩,
  ⟨[],[[(7,3191534778)],[(0,1057239717)],[(1,3191534778)]]⟩]⟩
def seg17 : Seg := ⟨16,64,4,⟨[0,1,2,3,4],[[(1,1053885932)],[(0,3201369580)],[(3,3207922931)],[(2,1060439283),(4,3201369580)],[(3,1053885932)]]⟩,[⟨[],[[(4,1062274540)],[(3,1053885932)],[],[(1,3201369580)],[(0,3209758188)]]⟩,
  ⟨[],[[(3,3201369580)],[(2,3207922931),(4,3201369580)],[(1,1060439283)],[(0,1053885932)],[(1,1053885932)]]⟩]⟩
def seg18 : Seg := ⟨64,16,4,⟨[0,1,2],[[],[(0,1053885932)],[],[(2,3201369580)],[(1,1062274540)]]⟩,[⟨[],[[(0,3201369580)],[],[(2,3207922931)],[(1,1053885932)],[(2,3201369580)]]⟩,
  ⟨[],[[],[(2,1060439283)],[],[(0,3207922931)],[]]⟩,
  ⟨[],[[(2,1053885932)],[(1,3201369580)],[(0,1060439283)],[],[(0,3201369580)]]⟩,
  ⟨[],[[(1,3209758188)],[(2,1053885932)],[],[(0,1053885932)],[]]⟩]⟩
def seg19 : Seg := ⟨64,144,4,⟨[0,2,3,4,5,6],[[],[(0,3201850375),(2,3198654306)],[(5,3206085952)],[(4,1051170658),(6,3201850375)],[(3,3196638839)]]⟩,[⟨[],[[(0,1054366727),(2,1051170658)],[],[(4,3200353423)],[(3,1057543799)],[(4,1051170658),(6,1054366727)]]⟩,
  ⟨[1],[[(5,1058602304)],[(4,1052869775)],[],[(2,3200353423)],[(1,3206085952)]]⟩,
  ⟨[],[[(4,3198654306),(6,1054366727)],[(3,3205027447)],[(2,1052869775)],[],[(0,3201850375),(2,1051170658)]]⟩,
  ⟨[],[[(3,1049155191)],[(4,3198654306),(6,3201850375)],[(1,1058602304)],[(0,1054366727),(2,3198654306)],[]]⟩]⟩
def seg20 : Seg := ⟨144,64,4,⟨[0,1,3,4],[[(1,3201850375)],[(0,1054366727)],[],[(4,3201850375)],[(3,1054366727)]]⟩,[⟨[2],[[],[],[(4,3206085952)],[],[(2,1058602304)]]⟩,
  ⟨[],[[(1,3198654306)],[(0,1051170658)],[(3,3200353423)],[(2,1052869775),(4,1051170658)],[(3,3198654306)]]⟩,
  ⟨[],[[(4,3196638839)],[(3,1057543799)],[],[(1,3205027447)],[(0,1049155191)]]⟩,
  ⟨[],[[(3,1051170658)],[(2,3200353423),(4,1051170658)],[(1,1052869775)],[(0,3198654306)],[(1,3198654306)]]⟩,
  ⟨[],[[(2,3206085952)],[],[(0,1058602304)],[],[]]⟩,
  ⟨[],[[(3,3201850375)],[(4,1054366727)],[],[(0,1054366727)],[(1,3201850375)]]⟩]⟩
def seg21 : Seg := ⟨144,256,4,⟨[0,2,3,5,6,7,8],[[(3,1038054531)],[(0,3201369580),(2,3194815116)],[(7,3204448256)],[(6,1047331468),(8,3201369580)],[(5,3185538179)]]⟩,[⟨[1,4],[[(0,1051372203)],[(1,3186711535),(3,3198133472)],[(6,3202315395)],[(5,1050649824),(7,3186711535)],[(4,3197123930),(8,1051372203)]]⟩,
  ⟨[],[[(1,1052692390),(3,1049640282)],[(2,1036778582)],[(5,3195655318)],[(4,1055133724),(6,1036778582)],[(5,1049640282),(7,1052692390)]]⟩,
  ⟨[],[[(6,1056560278)],[(5,1051764771)],[],[(3,3199248419)],[(2,3204043926)]]⟩,
  ⟨[],[[(5,3197123930),(7,1052692390)],[(4,3202617372),(6,1036778582)],[(3,1048171670)],[(2,3184262230)],[(1,3200176038),(3,1049640282)]]⟩,
  ⟨[],[[(4,1049640282),(8,1051372203)],[(5,3198133472),(7,3186711535)],[(2,1054831747)],[(1,1039227887),(3,3198133472)],[(0,3198855851)]]⟩,
  ⟨[],[[(5,1038054531)],[(6,3194815116),(8,3201369580)],[(1,1056964608)],[(0,1053885932),(2,3194815116)],[(3,1038054531)]]⟩]⟩
def seg22 : Seg := ⟨256,144,4,⟨[0,1,5,6],[[(1,3198855851)],[(0,1053885932)],[],[(6,3201369580)],[(5,1051372203)]]⟩,[⟨[2,4],[[(2,3200176038)],[(1,1039227887)],[(6,3204448256)],[(5,3186711535)],[(4,1052692390)]]⟩,
  ⟨[3],[[],[(0,1047331468),(2,3184262230)],[(5,3202315395)],[(4,1036778582),(6,1047331468)],[(3,1056560278)]]⟩,
  ⟨[],[[(0,3185538179),(2,3197123930)],[(1,1050649824)],[(4,3195655318)],[(3,1051764771),(5,1050649824)],[(4,3197123930),(6,3185538179)]]⟩,
  ⟨[],[[(5,3197123930)],[(4,1055133724)],[],[(2,3202617372)],[(1,1049640282)]]⟩,
  ⟨[],[[(4,1049640282),(6,3185538179)],[(3,3199248419),(5,1050649824)],[(2,1048171670)],[(1,3198133472)],[(0,1038054531),(2,3197123930)]]⟩,
  ⟨[],[[(3,3204043926)],[(4,3184262230),(6,1047331468)],[(1,1054831747)],[(0,3194815116),(2,3184262230)],[]]⟩,
  ⟨[],[[(4,3200176038)],[(5,1039227887)],[(0,1056964608)],[(1,1039227887)],[(2,3200176038)]]⟩,
  ⟨[],[[(5,3198855851)],[(6,1053885932)],[],[(0,1053885932)],[(1,3198855851)]]⟩]⟩
def seg23 : Seg := ⟨0,64,4,⟨[0,1,2,3,4],[[(0,1065353216)],[(1,1065353216)],[(2,1065353216)],[(3,1065353216)],[(4,1065353216)]]⟩,[]⟩
def seg24 : Seg := ⟨16,16,4,⟨[0,1,2],[[(2,1060439283)],[(1,1060439283)],[(0,3201369580)],[],[(0,3207922931)]]⟩,[⟨[],[[],[(0,1060439283)],[(1,1062274540)],[(2,1060439283)],[]]⟩,
  ⟨[],[[(0,1060439283)],[],[(2,3201369580)],[(1,1060439283)],[(2,1060439283)]]⟩]⟩
def seg25 : Seg := ⟨16,144,4,⟨[0,1,2,3,4,5,6],[[(4,3189637555),(6,3206085952)],[(3,3200353423),(5,3204043926)],[(2,1057543799)],[(1,1056560278)],[(0,1058602304),(2,1042153907)]]⟩,[⟨[],[[(1,1056560278)],[(2,1058931123)],[(3,1059559266)],[(4,1058931123)],[(5,1056560278)]]⟩,
  ⟨[],[[(0,1058602304),(2,3189637555)],[(1,1056560278)],[(4,1057543799)],[(3,3200353423),(5,1056560278)],[(4,3189637555),(6,1058602304)]]⟩]⟩
def seg26 : Seg := ⟨64,0,4,⟨[0],[[(0,1065353216)],[],[],[],[]]⟩,[⟨[],[[],[(0,1065353216)],[],[],[]]⟩,
  ⟨[],[[],[],[(0,1065353216)],[],[]]⟩,
  ⟨[],[[],[],[],[(0,1065353216)],[]]⟩,
  ⟨[],[[],[],[],[],[(0,1065353216)]]⟩]⟩
def seg27 : Seg := ⟨64,64,4,⟨[0,1,2,3],[[(2,3205027447)],[(3,1055720076)],[(0,3205027447)],[(1,1055720076)],[]]⟩,[⟨[4],[[(3,1055720076)],[(2,1049155191),(4,3203203724)],[(1,1049155191)],[(0,1055720076)],[(1,3203203724)]]⟩,
  ⟨[],[[(0,3205027447)],[(1,1049155191)],[(2,1057543799)],[(3,1049155191)],[(4,3205027447)]]⟩,
  ⟨[],[[(1,1055720076)],[(0,1055720076)],[(3,1049155191)],[(2,1049155191),(4,1055720076)],[(3,1055720076)]]⟩,
  ⟨[],[[],[(1,3203203724)],[(4,3205027447)],[(3,1055720076)],[(2,3205027447)]]⟩]⟩
def seg28 : Seg := ⟨64,256,4,⟨[0,1,2,3,4,5,7,8],[[(4,1035367242),(8,3204902017)],[(5,3188735322),(7,3200176038)],[(2,1051764771)],[(1,1052692390),(3,3188735322)],[(0,1057418369)]]⟩,[⟨[6],[[(5,3188735322),(7,3200176038)],[(4,3199628106),(6,3201039446)],[(3,1056560278)],[(2,1053555798)],[(1,1052692390),(3,1041251674)]]⟩,
  ⟨[],[[(2,1051764771)],[(3,1056560278)],[(4,1057543799)],[(5,1056560278)],[(6,1051764771)]]⟩,
  ⟨[],[[(1,1052692390),(3,3188735322)],[(2,1053555798)],[(5,1056560278)],[(4,3199628106),(6,1053555798)],[(5,3188735322),(7,1052692390)]]⟩,
  ⟨[],[[(0,1057418369)],[(1,1052692390),(3,1041251674)],[(6,1051764771)],[(5,3188735322),(7,1052692390)],[(4,1035367242),(8,1057418369)]]⟩]⟩
def seg29 : Seg := ⟨144,16,4,⟨[0,2],[[(2,1058602304)],[],[],[],[(0,1058602304)]]⟩,[⟨[1],[[(1,1056560278)],[(2,1056560278)],[],[(0,1056560278)],[]]⟩,
  ⟨[],[[(2,3189637555)],[(1,1058931123)],[(0,1057543799)],[],[(0,1042153907)]]⟩,
  ⟨[],[[],[(0,3200353423)],[(1,1059559266)],[(2,3200353423)],[]]⟩,
  ⟨[],[[(0,3189637555)],[],[(2,1057543799)],[(1,1058931123)],[(2,3189637555)]]⟩,
  ⟨[],[[],[(0,3204043926)],[],[(2,1056560278)],[(1,1056560278)]]⟩,
  ⟨[],[[(0,3206085952)],[],[],[],[(2,1058602304)]]⟩]⟩
def seg30 : Seg := ⟨144,144,4,⟨[0,1,2,4,5],[[(4,3195655318)],[(5,1053131295)],[(0,3205212370)],[(1,1053131295)],[(2,3195655318)]]⟩,[⟨[3,6],[[(3,3204043926)],[(4,1050213696),(6,3200614943)],[],[(0,1053131295),(2,1050213696)],[]]⟩,
  ⟨[],[[(4,1052869775),(6,1048171670)],[(3,1042153907),(5,3197697344)],[(2,1051170658)],[(1,1050213696)],[(0,3195655318),(2,3200353423)]]⟩,
  ⟨[],[[(1,3204043926)],[(2,1042153907)],[(3,1054831747)],[(4,1042153907)],[(5,3204043926)]]⟩,
  ⟨[],[[(0,3195655318),(2,1052869775)],[(1,1050213696)],[(4,1051170658)],[(3,1042153907),(5,1050213696)],[(4,1052869775),(6,3195655318)]]⟩,
  ⟨[],[[],[(0,1053131295),(2,3197697344)],[],[(4,1050213696),(6,1053131295)],[(3,3204043926)]]⟩,
  ⟨[],[[(2,1048171670)],[(1,3200614943)],[(6,3205212370)],[(5,1053131295)],[(4,3195655318)]]⟩]⟩
def seg31 : Seg := ⟨256,64,4,⟨[0,4],[[(4,1057418369)],[],[],[],[(0,1057418369)]]⟩,[⟨[1,3],[[(3,1052692390)],[(4,1052692390)],[],[(0,1052692390)],[(1,1052692390)]]⟩,
  ⟨[2],[[(2,1051764771)],[(3,1053555798)],[(0,1051764771)],[(1,1053555798)],[]]⟩,
  ⟨[],[[(3,3188735322)],[(2,1056560278),(4,1041251674)],[(1,1056560278)],[(0,3188735322)],[(1,1041251674)]]⟩,
  ⟨[],[[(0,1035367242)],[(1,3199628106)],[(2,1057543799)],[(3,3199628106)],[(4,1035367242)]]⟩,
  ⟨[],[[(1,3188735322)],[(0,3188735322)],[(3,1056560278)],[(2,1056560278),(4,3188735322)],[(3,3188735322)]]⟩,
  ⟨[],[[],[(1,3201039446)],[(4,1051764771)],[(3,1053555798)],[(2,1051764771)]]⟩,
  ⟨[],[[(1,3200176038)],[(0,3200176038)],[],[(4,1052692390)],[(3,1052692390)]]⟩,
  ⟨[],[[(0,3204902017)],[],[],[],[(4,1057418369)]]⟩]⟩
def seg32 : Seg := ⟨256,256,4,⟨[0,1,2,6,7],[[(6,3190964586)],[(7,1051115046)],[(0,3204982040)],[(1,1051115046)],[(2,3190964586)]]⟩,[⟨[3,5,8],[[(5,3196432655)],[(6,1050513055),(8,3198598694)],[(1,3188204824)],[(0,1051115046),(2,1050513055)],[(3,3196432655)]]⟩,
  ⟨[4],[[(4,3202480873),(8,1043480938)],[(5,1045848625),(7,3197996703)],[(2,1041995804)],[(1,1050513055),(3,1045848625)],[(0,3190964586)]]⟩,
  ⟨[],[[(5,1051225990),(7,1048949007)],[(4,1037373020),(6,3193332273)],[(3,1051021726)],[(2,1045848625)],[(1,3196432655),(3,3198709638)]]⟩,
  ⟨[],[[(2,3202480873)],[(3,1037373020)],[(4,1052933667)],[(5,1037373020)],[(6,3202480873)]]⟩,
  ⟨[],[[(1,3196432655),(3,1051225990)],[(2,1045848625)],[(5,1051021726)],[(4,1037373020),(6,1045848625)],[(5,1051225990),(7,3196432655)]]⟩,
  ⟨[],[[(0,3190964586)],[(1,1050513055),(3,3193332273)],[(6,1041995804)],[(5,1045848625),(7,1050513055)],[(4,3202480873),(8,3190964586)]]⟩,
  ⟨[],[[(3,1048949007)],[(0,1051115046),(2,3197996703)],[(7,3188204824)],[(6,1050513055),(8,1051115046)],[(5,3196432655)]]⟩,
  ⟨[],[[(2,1043480938)],[(1,3198598694)],[(8,3204982040)],[(7,1051115046)],[(6,3190964586)]]⟩]⟩
def seg33 : Seg := ⟨0,144,6,⟨[0,1,2,3,4,5,6],[[(0,1065353216)],[(1,1065353216)],[(2,1065353216)],[(3,1065353216)],[(4,1065353216)],[(5,1065353216)],[(6,1065353216)]]⟩,[]⟩
def seg34 : Seg := ⟨16,64,6,⟨[0,1,2,3,4],[[(4,1060439283)],[(3,1058262330)],[(2,1059186843),(4,1044051130)],[(1,3202677038)],[(0,3191534778)],[(1,3205745978)],[(0,3207922931)]]⟩,[⟨[],[[],[(0,1058262330)],[(1,1060828346)],[(2,1061571576)],[(3,1060828346)],[(4,1058262330)],[]]⟩,
  ⟨[],[[(0,1060439283)],[(1,1058262330)],[(0,3191534778)],[(3,3202677038)],[(2,1059186843),(4,3191534778)],[(3,1058262330)],[(4,1060439283)]]⟩]⟩
def seg35 : Seg := ⟨16,256,6,⟨[0,1,2,3,4,5,6,7,8],[[(6,3186711535),(8,3206522080)],[(5,3192980972),(7,3205120380)],[(4,3201369580),(6,3202986473)],[(3,1057418369)],[(2,1055502825)],[(1,1057636732),(3,1045497324)],[(0,1059038432),(2,1039227887)]]⟩,[⟨[],[[(1,1054983506)],[(2,1058262330)],[(3,1059405646)],[(4,1059760811)],[(5,1059405646)],[(6,1058262330)],[(7,1054983506)]]⟩,
  ⟨[],[[(0,1059038432),(2,3186711535)],[(1,1057636732),(3,3192980972)],[(2,1055502825)],[(5,1057418369)],[(4,3201369580),(6,1055502825)],[(5,3192980972),(7,1057636732)],[(6,3186711535),(8,1059038432)]]⟩]⟩
def seg36 : Seg := ⟨64,16,6,⟨[0,1,2],[[(2,1060439283)],[(1,1058262330)],[(2,3191534778)],[],[(0,3191534778)],[],[(0,3207922931)]]⟩,[⟨[],[[],[(2,1058262330)],[(1,1060828346)],[(0,3202677038)],[],[(0,3205745978)],[]]⟩,
  ⟨[],[[],[],[(0,1059186843)],[(1,1061571576)],[(2,1059186843)],[],[]]⟩,
  ⟨[],[[],[(0,1058262330)],[],[(2,3202677038)],[(1,1060828346)],[(2,1058262330)],[]]⟩,
  ⟨[],[[(0,1060439283)],[],[(0,1044051130)],[],[(2,3191534778)],[(1,1058262330)],[(2,1060439283)]]⟩]⟩
def seg37 : Seg := ⟨64,144,6,⟨[0,1,2,3,4,6],[[(4,3197357370)],[(3,3205745978)],[(4,1055193390),(6,1049873722)],[(1,3205745978)],[(0,3197357370),(2,1055193390)],[],[(2,1049873722)]]⟩,[⟨[5],[[(5,1055502825)],[(4,1052050675),(6,3202986473)],[(3,1044051130),(5,3199534323)],[(2,1044051130)],[(1,1052050675)],[(0,1055502825),(2,3199534323)],[(1,3202986473)]]⟩,
  ⟨[],[[(0,3206889294)],[],[(2,1053182968)],[(3,1057239717)],[(4,1053182968)],[],[(6,3206889294)]]⟩,
  ⟨[],[[(1,1055502825)],[(0,1055502825),(2,1052050675)],[(1,1052050675)],[(4,1044051130)],[(3,1044051130),(5,1052050675)],[(4,1052050675),(6,1055502825)],[(5,1055502825)]]⟩,
  ⟨[],[[(2,3197357370)],[],[(0,3197357370),(2,3202677038)],[(5,3205745978)],[(4,1055193390),(6,3197357370)],[(3,3205745978)],[(4,3197357370)]]⟩]⟩
def seg38 : Seg := ⟨144,0,6,⟨[0],[[(0,1065353216)],[],[],[],[],[],[]]⟩,[⟨[],[[],[(0,1065353216)],[],[],[],[],[]]⟩,
  ⟨[],[[],[],[(0,1065353216)],[],[],[],[]]⟩,
  ⟨[],[[],[],[],[(0,1065353216)],[],[],[]]⟩,
  ⟨[],[[],[],[],[],[(0,1065353216)],[],[]]⟩,
  ⟨[],[[],[],[],[],[],[(0,1065353216)],[]]⟩,
  ⟨[],[[],[],[],[],[],[],[(0,1065353216)]]⟩]⟩
def seg39 : Seg := ⟨144,64,6,⟨[0,1,2,3,4],[[(2,3206889294)],[(3,1055502825)],[(4,3197357370)],[],[(0,3197357370)],[(1,1055502825)],[]]⟩,[⟨[],[[(3,1055502825)],[],[(3,1052050675)],[(0,3205745978)],[(1,1052050675)],[],[(1,3202986473)]]⟩,
  ⟨[],[[(4,3197357370)],[(3,1052050675)],[(2,1053182968),(4,3202677038)],[(1,1044051130)],[(0,1055193390)],[(1,3199534323)],[(0,1049873722)]]⟩,
  ⟨[],[[],[(0,3205745978)],[(1,1044051130)],[(2,1057239717)],[(3,1044051130)],[(4,3205745978)],[]]⟩,
  ⟨[],[[(0,3197357370)],[(1,1052050675)],[(0,1055193390)],[(3,1044051130)],[(2,1053182968),(4,1055193390)],[(3,1052050675)],[(4,3197357370)]]⟩,
  ⟨[],[[(1,1055502825)],[],[(1,3199534323)],[(4,3205745978)],[(3,1052050675)],[],[(3,1055502825)]]⟩,
  ⟨[],[[],[(1,3202986473)],[(0,1049873722)],[],[(4,3197357370)],[(3,1055502825)],[(2,3206889294)]]⟩]⟩
def seg40 : Seg := ⟨144,256,6,⟨[0,1,2,3,4,5,6,8],[[(4,1046106442)],[(5,3196906593)],[(6,1052578187),(8,1051115046)],[(1,3205523274)],[(0,3198598694),(2,1052578187)],[(3,3196906593)],[]]⟩,[⟨[7],[[(5,3196906593)],[(4,3204363308),(8,3201778581)],[(5,1049725831),(7,3191900600)],[(2,3187414884)],[(1,1044416952),(3,1049725831)],[(0,1054294933)],[(3,1049422945)]]⟩,
  ⟨[],[[(6,1052578187),(8,1051115046)],[(5,1049725831),(7,3191900600)],[(4,1032948615),(6,3198335339)],[(3,1049422945)],[(2,1050851691)],[(1,1044416952),(3,3197209479)],[(0,3198598694),(2,3200061835)]]⟩,
  ⟨[],[[(1,3205523274)],[(2,3187414884)],[(3,1049422945)],[(4,1054495050)],[(5,1049422945)],[(6,3187414884)],[(7,3205523274)]]⟩,
  ⟨[],[[(0,3198598694),(2,1052578187)],[(1,1044416952),(3,1049725831)],[(2,1050851691)],[(5,1049422945)],[(4,1032948615),(6,1050851691)],[(5,1049725831),(7,1044416952)],[(6,1052578187),(8,3198598694)]]⟩,
  ⟨[],[[(3,3196906593)],[(0,1054294933)],[(1,1044416952),(3,3197209479)],[(6,3187414884)],[(5,1049725831),(7,1044416952)],[(4,3204363308),(8,1054294933)],[(5,3196906593)]]⟩,
  ⟨[],[[],[(3,1049422945)],[(0,3198598694),(2,3200061835)],[(7,3205523274)],[(6,1052578187),(8,3198598694)],[(5,3196906593)],[(4,1046106442)]]⟩]⟩
def seg41 : Seg := ⟨256,16,6,⟨[0,2],[[(2,1059038432)],[],[],[],[],[],[(0,1059038432)]]⟩,[⟨[1],[[(1,1054983506)],[(2,1057636732)],[],[],[],[(0,1057636732)],[]]⟩,
  ⟨[],[[(2,3186711535)],[(1,1058262330)],[(2,1055502825)],[],[(0,1055502825)],[],[(0,1039227887)]]⟩,
  ⟨[],[[],[(2,3192980972)],[(1,1059405646)],[(0,1057418369)],[],[(0,1045497324)],[]]⟩,
  ⟨[],[[],[],[(0,3201369580)],[(1,1059760811)],[(2,3201369580)],[],[]]⟩,
  ⟨[],[[],[(0,3192980972)],[],[(2,1057418369)],[(1,1059405646)],[(2,3192980972)],[]]⟩,
  ⟨[],[[(0,3186711535)],[],[(0,3202986473)],[],[(2,1055502825)],[(1,1058262330)],[(2,3186711535)]]⟩,
  ⟨[],[[],[(0,3205120380)],[],[],[],[(2,1057636732)],[(1,1054983506)]]⟩,
  ⟨[],[[(0,3206522080)],[],[],[],[],[],[(2,1059038432)]]⟩]⟩
def seg42 : Seg := ⟨256,144,6,⟨[0,1,2,4,5,6],[[(4,3198598694)],[(5,1054294933)],[(6,3198598694)],[],[(0,3198598694)],[(1,1054294933)],[(2,3198598694)]]⟩,[⟨[3],[[(3,3205523274)],[(4,1044416952)],[(5,1044416952)],[(0,3205523274)],[(1,1044416952)],[(2,1044416952)],[]]⟩,
  ⟨[],[[(4,1052578187)],[(3,3187414884)],[(4,1050851691),(6,3200061835)],[(1,3187414884)],[(0,1052578187),(2,1050851691)],[],[(2,3200061835)]]⟩,
  ⟨[],[[(5,3196906593)],[(4,1049725831),(6,1049422945)],[(3,1049422945),(5,3197209479)],[(2,1049422945)],[(1,1049725831)],[(0,3196906593),(2,3197209479)],[(1,1049422945)]]⟩,
  ⟨[],[[(0,1046106442)],[(1,3204363308)],[(2,1032948615)],[(3,1054495050)],[(4,1032948615)],[(5,3204363308)],[(6,1046106442)]]⟩,
  ⟨[],[[(1,3196906593)],[(0,3196906593),(2,1049725831)],[(1,1049725831)],[(4,1049422945)],[(3,1049422945),(5,1049725831)],[(4,1049725831),(6,3196906593)],[(5,3196906593)]]⟩,
  ⟨[],[[(2,1052578187)],[],[(0,1052578187),(2,3198335339)],[(5,3187414884)],[(4,1050851691),(6,1052578187)],[(3,3187414884)],[(4,1052578187)]]⟩,
  ⟨[],[[],[(2,3191900600)],[(1,3191900600)],[(6,3205523274)],[(5,1044416952)],[(4,1044416952)],[(3,3205523274)]]⟩,
  ⟨[],[[(2,1051115046)],[(1,3201778581)],[(0,1051115046)],[],[(6,3198598694)],[(5,1054294933)],[(4,3198598694)]]⟩]⟩
def seg43 : Seg := ⟨16,144,6,⟨[0,1,2,3,4,5,6],[[(1,1052050675)],[(0,3199534323),(2,1055502825)],[(1,3202986473)],[(4,3207922931)],[(3,1060439283),(5,3202986473)],[(4,1055502825),(6,3199534323)],[(5,1052050675)]]⟩,[⟨[],[[(6,1063105495)],[(5,1058262330)],[(4,1049873722)],[],[(2,3197357370)],[(1,3205745978)],[(0,3210589143)]]⟩,
  ⟨[],[[(5,3199534323)],[(4,3202986473),(6,3199534323)],[(3,3207922931),(5,3202986473)],[(2,1060439283)],[(1,1055502825)],[(0,1052050675),(2,1055502825)],[(1,1052050675)]]⟩]⟩
def seg44 : Seg := ⟨64,64,6,⟨[1,2,3,4],[[(1,1056964608)],[],[(1,1053182968)],[(4,1050798235)],[(3,3200666616)],[(2,1060439283)],[(3,1056964608)]]⟩,[⟨[0],[[(0,3204448256)],[],[(0,3200666616)],[(3,3206670491)],[(2,1055193390),(4,3200666616)],[],[(4,3204448256)]]⟩,
  ⟨[],[[],[(4,1060439283)],[(3,1055193390)],[],[(1,3202677038)],[(0,3207922931)],[]]⟩,
  ⟨[],[[(4,1056964608)],[],[(2,3202677038),(4,3200666616)],[(1,1059186843)],[(0,1053182968)],[],[(0,3204448256)]]⟩,
  ⟨[],[[(3,3204448256)],[(2,3207922931)],[(3,1053182968)],[(0,3198281883)],[(1,1053182968)],[],[(1,1056964608)]]⟩]⟩
def seg45 : Seg := ⟨64,256,6,⟨[0,1,3,4,5,6,7,8],[[(3,3187946149)],[(0,3200905086)],[(1,3202467154),(3,3198855851)],[(6,3205745978)],[(5,1051372203),(7,3202467154)],[(4,3198855851),(8,3200905086)],[(5,3187946149)]]⟩,[⟨[2],[[(0,1056395723),(2,1049376652)],[(1,1041156668),(3,1052566709)],[(2,3186711535)],[(5,3201369580)],[(4,1057418369),(6,3186711535)],[(5,1052566709),(7,1041156668)],[(6,1049376652),(8,1056395723)]]⟩,
  ⟨[],[[(7,1058501535)],[(6,1057239717)],[(5,1049873722)],[],[(3,3197357370)],[(2,3204723365)],[(1,3205985183)]]⟩,
  ⟨[],[[(6,3196860300),(8,1056395723)],[(5,3200050357),(7,1041156668)],[(4,3204902017),(6,3186711535)],[(3,1053885932)],[(2,1039227887)],[(1,3188640316),(3,1052566709)],[(0,3203879371),(2,1049376652)]]⟩,
  ⟨[],[[(5,1040462501)],[(4,1051372203),(8,3200905086)],[(5,3198855851),(7,3202467154)],[(2,1058262330)],[(1,1054983506),(3,3198855851)],[(0,1053421438)],[(3,3187946149)]]⟩]⟩
def seg46 : Seg := ⟨144,16,6,⟨[0,1,2],[[],[(0,1052050675)],[],[],[],[(2,3199534323)],[(1,1063105495)]]⟩,[⟨[],[[(0,3199534323)],[],[(0,1055502825)],[],[(2,3202986473)],[(1,1058262330)],[(2,3199534323)]]⟩,
  ⟨[],[[],[(0,3202986473)],[],[(2,3207922931)],[(1,1049873722)],[(2,3202986473)],[]]⟩,
  ⟨[],[[],[],[(2,1060439283)],[],[(0,3207922931)],[],[]]⟩,
  ⟨[],[[],[(2,1055502825)],[(1,3197357370)],[(0,1060439283)],[],[(0,3202986473)],[]]⟩,
  ⟨[],[[(2,1052050675)],[(1,3205745978)],[(2,1055502825)],[],[(0,1055502825)],[],[(0,3199534323)]]⟩,
  ⟨[],[[(1,3210589143)],[(2,1052050675)],[],[],[],[(0,1052050675)],[]]⟩]⟩
def seg47 : Seg := ⟨144,144,6,⟨[1,2,3,4,5,6],[[],[(2,3201369580)],[(1,1053885932)],[(6,1053885932)],[(5,3201369580)],[(4,1053885932)],[(3,3201369580)]]⟩,[⟨[0],[[(2,1053885932)],[],[(0,3201369580)],[(5,3201369580)],[(6,3201369580)],[(3,1053885932)],[(4,1053885932)]]⟩,
  ⟨[],[[(1,3201369580)],[(0,1053885932)],[],[(4,3201369580)],[(3,1053885932)],[(6,1053885932)],[(5,3201369580)]]⟩,
  ⟨[],[[(6,3201369580)],[(5,1053885932)],[(4,1053885932)],[],[(2,3201369580)],[(1,3201369580)],[(0,1053885932)]]⟩,
  ⟨[],[[(5,1053885932)],[(6,1053885932)],[(3,3201369580)],[(2,1053885932)],[],[(0,3201369580)],[(1,3201369580)]]⟩,
  ⟨[],[[(4,3201369580)],[(3,3201369580)],[(6,3201369580)],[(1,1053885932)],[(0,1053885932)],[],[(2,1053885932)]]⟩,
  ⟨[],[[(3,1053885932)],[(4,3201369580)],[(5,1053885932)],[(0,3201369580)],[(1,1053885932)],[(2,3201369580)],[]]⟩]⟩
def seg48 : Seg := ⟨256,64,6,⟨[0,1,3,4],[[(1,3203879371)],[(0,1053421438)],[],[],[],[(4,3200905086)],[(3,1056395723)]]⟩,[⟨[2],[[],[(1,3188640316)],[(0,1054983506)],[],[(4,3202467154)],[(3,1041156668)],[(2,1058501535)]]⟩,
  ⟨[],[[(1,3196860300)],[],[(1,1039227887)],[(4,3205745978)],[(3,3186711535)],[(2,1057239717)],[(3,3196860300)]]⟩,
  ⟨[],[[(0,1040462501)],[(1,3200050357)],[(0,1051372203)],[(3,3201369580)],[(2,1049873722),(4,1051372203)],[(3,3200050357)],[(4,1040462501)]]⟩,
  ⟨[],[[],[(4,3198855851)],[(3,1057418369)],[],[(1,3204902017)],[(0,1051372203)],[]]⟩,
  ⟨[],[[(4,3187946149)],[(3,1052566709)],[(2,3197357370),(4,1051372203)],[(1,1053885932)],[(0,3198855851)],[(1,3200050357)],[(0,1040462501)]]⟩,
  ⟨[],[[(3,1049376652)],[(2,3204723365)],[(3,1039227887)],[(0,1058262330)],[(1,1039227887)],[],[(1,3196860300)]]⟩,
  ⟨[],[[(2,3205985183)],[(3,3188640316)],[(4,1054983506)],[],[(0,1054983506)],[(1,3188640316)],[]]⟩,
  ⟨[],[[(3,3203879371)],[(4,1053421438)],[],[],[],[(0,1053421438)],[(1,3203879371)]]⟩]⟩
def seg49 : Seg := ⟨256,256,6,⟨[1,2,3,5,6,7,8],[[(3,1044416952)],[(2,3198598694)],[(1,1053117167)],[(8,1055117410)],[(7,3200600815)],[(6,1051115046)],[(5,3191900600)]]⟩,[⟨[0,4],[[],[(3,3198598694)],[(0,3200600815),(2,1041572775)],[(7,3194212450)],[(6,3189056423),(8,3200600815)],[(5,1051115046)],[(4,3201778581)]]⟩,
  ⟨[],[[(3,1052110440)],[(0,1051115046)],[(1,3189056423),(3,3185670710)],[(6,3201534628)],[(5,1038187062),(7,3189056423)],[(4,1049422945),(8,1051115046)],[(5,1052110440)]]⟩,
  ⟨[],[[(0,3191900600),(2,3199594088)],[(1,1051115046)],[(2,1038187062)],[(5,3197268909)],[(4,1052578187),(6,1038187062)],[(7,1051115046)],[(6,3199594088),(8,3191900600)]]⟩,
  ⟨[],[[(7,3201778581)],[(6,1049422945)],[(5,1052578187)],[],[(3,3200061835)],[(2,3196906593)],[(1,1054294933)]]⟩,
  ⟨[],[[(6,1052110440),(8,3191900600)],[(7,1051115046)],[(4,3200061835),(6,1038187062)],[(3,1049785261)],[(2,3185670710)],[(1,3198598694)],[(0,1044416952),(2,3199594088)]]⟩,
  ⟨[],[[(5,3199594088)],[(4,3196906593),(8,1051115046)],[(5,3185670710),(7,3189056423)],[(2,1054050980)],[(1,1041572775),(3,3185670710)],[(0,3198598694)],[(3,1052110440)]]⟩,
  ⟨[],[[(4,1054294933)],[(5,3198598694)],[(6,1041572775),(8,3200600815)],[(1,1046728802)],[(0,1053117167),(2,1041572775)],[(3,3198598694)],[]]⟩,
  ⟨[],[[(5,1044416952)],[(6,3198598694)],[(7,1053117167)],[(0,3202601058)],[(1,1053117167)],[(2,3198598694)],[(3,1044416952)]]⟩]⟩
def seg50 : Seg := ⟨16,256,8,⟨[0,1,2,3,4,5,6,7,8],[[(1,1050798235)],[(0,3198281883),(2,1054224218)],[(1,3201707866),(3,1056103657)],[(2,3203587305)],[(5,3207922931)],[(4,1060439283),(6,3203587305)],[(5,1056103657),(7,3201707866)],[(6,1054224218),(8,3198281883)],[(7,1050798235)]]⟩,[⟨[],[[(8,1063581998)],[(7,1059830499)],[(6,1055193390)],[(5,1046804782)],[],[(3,3194288430)],[(2,3202677038)],[(1,3207314147)],[(0,3211065646)]]⟩,
  ⟨[],[[(7,3198281883)],[(6,3201707866),(8,3198281883)],[(5,3203587305),(7,3201707866)],[(4,3207922931),(6,3203587305)],[(3,1060439283)],[(2,1056103657)],[(1,1054224218),(3,1056103657)],[(0,1050798235),(2,1054224218)],[(1,1050798235)]]⟩]⟩
def seg51 : Seg := ⟨64,144,8,⟨[0,1,2,3,4,5,6],[[(1,1055193390)],[(2,1056964608)],[],[(0,1041622516),(2,1052869775)],[(5,1052869775)],[(4,3200353423),(6,1041622516)],[(3,1059559266)],[(4,1056964608)],[(5,1055193390)]]⟩,[⟨[],[[(0,3205248908)],[(1,3189893275)],[(0,3198090681),(2,1040766583)],[(1,3201707866)],[(4,3206085952)],[(3,1055720076),(5,3201707866)],[(4,1040766583),(6,3198090681)],[(5,3189893275)],[(6,3205248908)]]⟩,
  ⟨[],[[],[(6,1059830499)],[(5,1058399732)],[(4,1051170658)],[],[(2,3198654306)],[(1,3205883380)],[(0,3207314147)],[]]⟩,
  ⟨[],[[(6,1057765260)],[(5,1042409627)],[(4,3188250231),(6,3198090681)],[(3,3203203724),(5,3201707866)],[(2,1058602304)],[(1,1054224218)],[(0,1050607033),(2,1040766583)],[(1,3189893275)],[(0,3205248908)]]⟩,
  ⟨[],[[(5,3202677038)],[(4,3204448256)],[(3,3207042914)],[(4,1052869775),(6,1041622516)],[(1,3200353423)],[(0,3189106164),(2,1052869775)],[],[(2,1056964608)],[(1,1055193390)]]⟩]⟩
def seg52 : Seg := ⟨144,64,8,⟨[0,1,2,3,4],[[(1,1057765260)],[],[(1,1050607033)],[(0,3189106164)],[],[(4,1041622516)],[(3,3198090681)],[(2,1059830499)],[(3,1057765260)]]⟩,[⟨[],[[(0,3202677038)],[(1,1042409627)],[],[(1,1054224218)],[(4,1052869775)],[(3,3201707866)],[(2,1058399732)],[(3,1042409627)],[(4,3202677038)]]⟩,
  ⟨[],[[],[(0,3204448256)],[(1,3188250231)],[(0,3200353423)],[(3,3206085952)],[(2,1051170658),(4,3200353423)],[(3,3188250231)],[(4,3204448256)],[]]⟩,
  ⟨[],[[],[],[(4,1059559266)],[(3,1055720076)],[],[(1,3203203724)],[(0,3207042914)],[],[]]⟩,
  ⟨[],[[],[(4,1056964608)],[(3,1040766583)],[(2,3198654306),(4,3200353423)],[(1,1058602304)],[(0,1052869775)],[(1,3188250231)],[(0,3204448256)],[]]⟩,
  ⟨[],[[(4,1055193390)],[(3,3189893275)],[(2,3205883380)],[(3,1054224218)],[(0,3200353423)],[(1,1054224218)],[],[(1,1042409627)],[(0,3202677038)]]⟩,
  ⟨[],[[(3,3205248908)],[(2,3207314147)],[(3,1050607033)],[(4,3189106164)],[],[(0,3189106164)],[(1,1050607033)],[],[(1,1057765260)]]⟩]⟩
def seg53 : Seg := ⟨144,256,8,⟨[0,2,3,4,5,6,7,8],[[(3,3193590090)],[],[(3,3201190506)],[(0,1046106442),(2,1053706858)],[(7,1056183840)],[(6,3201190506),(8,1046106442)],[(5,1053706858)],[(4,3203667488)],[(5,3193590090)]]⟩,[⟨[1],[[(2,1052578187)],[(3,1052578187)],[(0,3200061835)],[(1,3200061835)],[(6,3198143173)],[(7,3200061835)],[(4,1050659525),(8,3200061835)],[(5,1052578187)],[(6,1052578187)]]⟩,
  ⟨[],[[(1,3202332027)],[(0,1054848379),(2,3190365096)],[(1,1042881448),(3,1040165589)],[(2,3187649237)],[(5,3201720881)],[(4,1054237233),(6,3187649237)],[(5,1040165589),(7,1042881448)],[(6,3190365096),(8,1054848379)],[(7,3202332027)]]⟩,
  ⟨[],[[(8,3204524173)],[(7,1048651917)],[(6,1055907223)],[(5,1051070352)],[],[(3,3198554000)],[(2,3203390871)],[(1,3196135565)],[(0,1057040525)]]⟩,
  ⟨[],[[(7,1054848379)],[(6,1042881448),(8,1054848379)],[(5,3187649237),(7,1042881448)],[(4,3201720881),(6,3187649237)],[(3,1054237233)],[(2,1040165589)],[(1,3190365096),(3,1040165589)],[(0,3202332027),(2,3190365096)],[(1,3202332027)]]⟩,
  ⟨[],[[(6,3200061835)],[(5,3200061835)],[(4,3198143173),(8,3200061835)],[(7,3200061835)],[(2,1050659525)],[(1,1052578187)],[(0,1052578187)],[(3,1052578187)],[(2,1052578187)]]⟩,
  ⟨[],[[(5,1046106442)],[(4,1056183840)],[(5,3201190506)],[(6,1053706858),(8,1046106442)],[(1,3203667488)],[(0,3193590090),(2,1053706858)],[(3,3201190506)],[],[(3,3193590090)]]⟩]⟩
def seg54 : Seg := ⟨256,16,8,⟨[0,1,2],[[],[(0,1050798235)],[],[],[],[],[],[(2,3198281883)],[(1,1063581998)]]⟩,[⟨[],[[(0,3198281883)],[],[(0,1054224218)],[],[],[],[(2,3201707866)],[(1,1059830499)],[(2,3198281883)]]⟩,
  ⟨[],[[],[(0,3201707866)],[],[(0,1056103657)],[],[(2,3203587305)],[(1,1055193390)],[(2,3201707866)],[]]⟩,
  ⟨[],[[],[],[(0,3203587305)],[],[(2,3207922931)],[(1,1046804782)],[(2,3203587305)],[],[]]⟩,
  ⟨[],[[],[],[],[(2,1060439283)],[],[(0,3207922931)],[],[],[]]⟩,
  ⟨[],[[],[],[(2,1056103657)],[(1,3194288430)],[(0,1060439283)],[],[(0,3203587305)],[],[]]⟩,
  ⟨[],[[],[(2,1054224218)],[(1,3202677038)],[(2,1056103657)],[],[(0,1056103657)],[],[(0,3201707866)],[]]⟩,
  ⟨[],[[(2,1050798235)],[(1,3207314147)],[(2,1054224218)],[],[],[],[(0,1054224218)],[],[(0,3198281883)]]⟩,
  ⟨[],[[(1,3211065646)],[(2,1050798235)],[],[],[],[],[],[(0,1050798235)],[]]⟩]⟩
def seg55 : Seg := ⟨256,144,8,⟨[0,1,2,3,4,5,6],[[],[(2,3202332027)],[(1,1052578187)],[(0,3193590090)],[],[(6,1046106442)],[(5,3200061835)],[(4,1054848379)],[(3,3204524173)]]⟩,[⟨[],[[(2,1054848379)],[],[(2,3190365096)],[(1,1052578187)],[(6,1056183840)],[(5,3200061835)],[(4,1042881448)],[(3,1048651917)],[(4,1054848379)]]⟩,
  ⟨[],[[(1,3200061835)],[(2,1042881448)],[],[(0,3201190506),(2,1040165589)],[(5,3198143173)],[(4,3187649237),(6,3201190506)],[(3,1055907223)],[(4,1042881448)],[(5,3200061835)]]⟩,
  ⟨[],[[(0,1046106442)],[(1,3200061835)],[(0,1053706858),(2,3187649237)],[],[(4,3201720881)],[(3,1051070352)],[(4,3187649237),(6,1053706858)],[(5,3200061835)],[(6,1046106442)]]⟩,
  ⟨[],[[],[(6,3203667488)],[(5,1050659525)],[(4,1054237233)],[],[(2,3201720881)],[(1,3198143173)],[(0,1056183840)],[]]⟩,
  ⟨[],[[(6,3193590090)],[(5,1052578187)],[(4,1040165589),(6,1053706858)],[(3,3198554000)],[(2,1054237233)],[],[(0,3201190506),(2,3187649237)],[(1,3200061835)],[(0,1046106442)]]⟩,
  ⟨[],[[(5,1052578187)],[(4,3190365096)],[(3,3203390871)],[(4,1040165589),(6,3201190506)],[(1,1050659525)],[(0,1053706858),(2,1040165589)],[],[(2,1042881448)],[(1,3200061835)]]⟩,
  ⟨[],[[(4,3202332027)],[(3,3196135565)],[(4,3190365096)],[(5,1052578187)],[(0,3203667488)],[(1,1052578187)],[(2,3190365096)],[],[(2,1054848379)]]⟩,
  ⟨[],[[(3,1057040525)],[(4,3202332027)],[(5,1052578187)],[(6,3193590090)],[],[(0,3193590090)],[(1,1052578187)],[(2,3202332027)],[]]⟩]⟩
def seg56 : Seg := ⟨0,256,8,⟨[0,1,2,3,4,5,6,7,8],[[(0,1065353216)],[(1,1065353216)],[(2,1065353216)],[(3,1065353216)],[(4,1065353216)],[(5,1065353216)],[(6,1065353216)],[(7,1065353216)],[(8,1065353216)]]⟩,[]⟩
def seg57 : Seg := ⟨16,144,8,⟨[0,1,2,3,4,5,6],[[(6,1060439283)],[(5,1058849905)],[(4,1057259034),(6,1040766583)],[(3,1058602304),(5,1047331468)],[(2,3203203724)],[(1,3194815116)],[(0,3188250231),(2,3204742682)],[(1,3206333553)],[(0,3207922931)]]⟩,[⟨[],[[],[(0,1056964608)],[(1,1059559266)],[(2,1060855665)],[(3,1061258383)],[(4,1060855665)],[(5,1059559266)],[(6,1056964608)],[]]⟩,
  ⟨[],[[(0,1060439283)],[(1,1058849905)],[(0,3188250231),(2,1057259034)],[(1,3194815116)],[(4,3203203724)],[(3,1058602304),(5,3194815116)],[(4,1057259034),(6,3188250231)],[(5,1058849905)],[(6,1060439283)]]⟩]⟩
def seg58 : Seg := ⟨64,64,8,⟨[0,1,2,3,4],[[(4,1060439283)],[(3,1056964608)],[(2,1055720076)],[(3,3191964815)],[(0,1039452263)],[(1,3191964815)],[],[(1,3204448256)],[(0,3207922931)]]⟩,[⟨[],[[],[(4,1056964608)],[(3,1057543799)],[(2,1059559266),(4,1044481167)],[(1,3203713127)],[(0,3191964815)],[(1,3205027447)],[(0,3204448256)],[]]⟩,
  ⟨[],[[],[],[(0,1055720076)],[(1,1059559266)],[(2,1060607565)],[(3,1059559266)],[(4,1055720076)],[],[]]⟩,
  ⟨[],[[],[(0,1056964608)],[(1,1057543799)],[(0,3191964815)],[(3,3203713127)],[(2,1059559266),(4,3191964815)],[(3,1057543799)],[(4,1056964608)],[]]⟩,
  ⟨[],[[(0,1060439283)],[(1,1056964608)],[],[(1,1044481167)],[(4,1039452263)],[(3,3191964815)],[(2,1055720076)],[(3,1056964608)],[(4,1060439283)]]⟩]⟩
def seg59 : Seg := ⟨64,256,8,⟨[0,1,2,3,4,5,6,7,8],[[(6,3194955686)],[(5,3199425980)],[(4,3205994386),(8,1047472038)],[(5,1054997225),(7,1051942332)],[(2,3205994386)],[(1,3199425980),(3,1054997225)],[(0,3194955686)],[(3,1051942332)],[(2,1047472038)]]⟩,[⟨[],[[(7,1054848379)],[(6,1054040722),(8,3202332027)],[(5,1049612312),(7,3201524370)],[(4,1041165345),(6,3197095960)],[(3,1041165345)],[(2,1049612312)],[(1,1054040722),(3,3197095960)],[(0,1054848379),(2,3201524370)],[(1,3202332027)]]⟩,
  ⟨[],[[(0,3208030293)],[(1,3191253077)],[(2,1045479522)],[(3,1054723176)],[(4,1057126461)],[(5,1054723176)],[(6,1045479522)],[(7,3191253077)],[(8,3208030293)]]⟩,
  ⟨[],[[(1,1054848379)],[(0,1054848379),(2,1054040722)],[(1,1054040722),(3,1049612312)],[(2,1049612312)],[(5,1041165345)],[(4,1041165345),(6,1049612312)],[(5,1049612312),(7,1054040722)],[(6,1054040722),(8,1054848379)],[(7,1054848379)]]⟩,
  ⟨[],[[(2,3194955686)],[(3,3199425980)],[(0,3194955686)],[(1,3199425980),(3,3202480873)],[(6,3205994386)],[(5,1054997225),(7,3199425980)],[(4,3205994386),(8,3194955686)],[(5,3199425980)],[(6,3194955686)]]⟩]⟩
def seg60 : Seg := ⟨144,16,8,⟨[0,1,2],[[(2,1060439283)],[(1,1056964608)],[(2,3188250231)],[],[],[],[(0,3188250231)],[],[(0,3207922931)]]⟩,[⟨[],[[],[(2,1058849905)],[(1,1059559266)],[(2,3194815116)],[],[(0,3194815116)],[],[(0,3206333553)],[]]⟩,
  ⟨[],[[],[],[(2,1057259034)],[(1,1060855665)],[(0,3203203724)],[],[(0,3204742682)],[],[]]⟩,
  ⟨[],[[],[],[],[(0,1058602304)],[(1,1061258383)],[(2,1058602304)],[],[],[]]⟩,
  ⟨[],[[],[],[(0,1057259034)],[],[(2,3203203724)],[(1,1060855665)],[(2,1057259034)],[],[]]⟩,
  ⟨[],[[],[(0,1058849905)],[],[(0,1047331468)],[],[(2,3194815116)],[(1,1059559266)],[(2,1058849905)],[]]⟩,
  ⟨[],[[(0,1060439283)],[],[(0,1040766583)],[],[],[],[(2,3188250231)],[(1,1056964608)],[(2,1060439283)]]⟩]⟩
def seg61 : Seg := ⟨144,144,8,⟨[0,1,2,3,4,5],[[(4,3200061835)],[(3,3206790391)],[(4,1054237233)],[(5,3198143173)],[(0,1048022143)],[(1,3198143173)],[(2,1054237233)],[],[(2,1052578187)]]⟩,[⟨[6],[[(5,1056183840)],[(4,1046106442)],[(3,3188648993)],[(4,1051002965),(6,1050659525)],[(1,3205523274)],[(0,3198143173),(2,1051002965)],[],[(2,3193590090)],[(1,3203667488)]]⟩,
  ⟨[],[[(6,3200061835)],[(5,1046106442)],[(4,1052279570),(6,3201720881)],[(3,1050659525),(5,3198486613)],[(2,1034225749)],[(1,1051002965)],[(0,1054237233),(2,3199763218)],[(1,3193590090)],[(0,1052578187)]]⟩,
  ⟨[],[[],[(0,3206790391)],[(1,3188648993)],[(2,1050659525)],[(3,1056410751)],[(4,1050659525)],[(5,3188648993)],[(6,3206790391)],[]]⟩,
  ⟨[],[[(0,3200061835)],[(1,1046106442)],[(0,1054237233),(2,1052279570)],[(1,1051002965)],[(4,1034225749)],[(3,1050659525),(5,1051002965)],[(4,1052279570),(6,1054237233)],[(5,1046106442)],[(6,3200061835)]]⟩,
  ⟨[],[[(1,1056183840)],[(2,1046106442)],[],[(0,3198143173),(2,3198486613)],[(5,3205523274)],[(4,1051002965),(6,3198143173)],[(3,3188648993)],[(4,1046106442)],[(5,1056183840)]]⟩,
  ⟨[],[[(2,3200061835)],[],[(2,3201720881)],[(1,1050659525)],[(6,1048022143)],[(5,3198143173)],[(4,1054237233)],[(3,3206790391)],[(4,3200061835)]]⟩]⟩
def seg62 : Seg := ⟨256,0,8,⟨[0],[[(0,1065353216)],[],[],[],[],[],[],[],[]]⟩,[⟨[],[[],[(0,1065353216)],[],[],[],[],[],[],[]]⟩,
  ⟨[],[[],[],[(0,1065353216)],[],[],[],[],[],[]]⟩,
  ⟨[],[[],[],[],[(0,1065353216)],[],[],[],[],[]]⟩,
  ⟨[],[[],[],[],[],[(0,1065353216)],[],[],[],[]]⟩,
  ⟨[],[[],[],[],[],[],[(0,1065353216)],[],[],[]]⟩,
  ⟨[],[[],[],[],[],[],[],[(0,1065353216)],[],[]]⟩,
  ⟨[],[[],[],[],[],[],[],[],[(0,1065353216)],[]]⟩,
  ⟨[],[[],[],[],[],[],[],[],[],[(0,1065353216)]]⟩]⟩
def seg63 : Seg := ⟨256,64,8,⟨[0,1,2,3,4],[[(2,3208030293)],[(3,1054848379)],[(4,3194955686)],[],[],[],[(0,3194955686)],[(1,1054848379)],[]]⟩,[⟨[],[[(3,1054848379)],[(2,3191253077)],[(3,1054040722)],[(4,3199425980)],[],[(0,3199425980)],[(1,1054040722)],[],[(1,3202332027)]]⟩,
  ⟨[],[[(4,3194955686)],[(3,1054040722)],[(2,1045479522)],[(3,1049612312)],[(0,3205994386)],[(1,1049612312)],[],[(1,3201524370)],[(0,1047472038)]]⟩,
  ⟨[],[[],[(4,3199425980)],[(3,1049612312)],[(2,1054723176),(4,3202480873)],[(1,1041165345)],[(0,1054997225)],[(1,3197095960)],[(0,1051942332)],[]]⟩,
  ⟨[],[[],[],[(0,3205994386)],[(1,1041165345)],[(2,1057126461)],[(3,1041165345)],[(4,3205994386)],[],[]]⟩,
  ⟨[],[[],[(0,3199425980)],[(1,1049612312)],[(0,1054997225)],[(3,1041165345)],[(2,1054723176),(4,1054997225)],[(3,1049612312)],[(4,3199425980)],[]]⟩,
  ⟨[],[[(0,3194955686)],[(1,1054040722)],[],[(1,3197095960)],[(4,3205994386)],[(3,1049612312)],[(2,1045479522)],[(3,1054040722)],[(4,3194955686)]]⟩,
  ⟨[],[[(1,1054848379)],[],[(1,3201524370)],[(0,1051942332)],[],[(4,3199425980)],[(3,1054040722)],[(2,3191253077)],[(3,1054848379)]]⟩,
  ⟨[],[[],[(1,3202332027)],[(0,1047472038)],[],[],[],[(4,3194955686)],[(3,1054848379)],[(2,3208030293)]]⟩]⟩
def seg64 : Seg := ⟨256,256,8,⟨[0,1,2,3,4,5,6,7],[[(4,1050686343)],[(5,3199409224)],[(6,1053497241)],[(7,3199409224)],[(0,1050686343)],[(1,3199409224)],[(2,1053497241)],[(3,3199409224)],[]]⟩,[⟨[8],[[(5,3199409224)],[(4,3203419466)],[(5,1040672017)],[(6,1040672017),(8,1051925576)],[(1,3203419466)],[(0,3199409224),(2,1040672017)],[(3,1040672017)],[],[(3,1051925576)]]⟩,
  ⟨[],[[(6,1053497241)],[(5,1040672017)],[(4,3195780783),(8,3200980889)],[(5,1050248692),(7,3188155665)],[(2,3195780783)],[(1,1040672017),(3,1050248692)],[(0,1053497241)],[(3,3188155665)],[(2,3200980889)]]⟩,
  ⟨[],[[(7,3199409224)],[(6,1040672017),(8,1051925576)],[(5,1050248692),(7,3188155665)],[(4,1045297435),(6,3197732340)],[(3,1045297435)],[(2,1050248692)],[(1,1040672017),(3,3197732340)],[(0,3199409224),(2,3188155665)],[(1,1051925576)]]⟩,
  ⟨[],[[(0,1050686343)],[(1,3203419466)],[(2,3195780783)],[(3,1045297435)],[(4,1053686043)],[(5,1045297435)],[(6,3195780783)],[(7,3203419466)],[(8,1050686343)]]⟩,
  ⟨[],[[(1,3199409224)],[(0,3199409224),(2,1040672017)],[(1,1040672017),(3,1050248692)],[(2,1050248692)],[(5,1045297435)],[(4,1045297435),(6,1050248692)],[(5,1050248692),(7,1040672017)],[(6,1040672017),(8,3199409224)],[(7,3199409224)]]⟩,
  ⟨[],[[(2,1053497241)],[(3,1040672017)],[(0,1053497241)],[(1,1040672017),(3,3197732340)],[(6,3195780783)],[(5,1050248692),(7,1040672017)],[(4,3195780783),(8,1053497241)],[(5,1040672017)],[(6,1053497241)]]⟩,
  ⟨[],[[(3,3199409224)],[],[(3,3188155665)],[(0,3199409224),(2,3188155665)],[(7,3203419466)],[(6,1040672017),(8,3199409224)],[(5,1040672017)],[(4,3203419466)],[(5,3199409224)]]⟩,
  ⟨[],[[],[(3,1051925576)],[(2,3200980889)],[(1,1051925576)],[(8,1050686343)],[(7,3199409224)],[(6,1053497241)],[(5,3199409224)],[(4,1050686343)]]⟩]⟩
def seg65 : Seg := ⟨16,256,10,⟨[0,1,2,3,4,5,6,7,8],[[(8,1060439283)],[(7,1059186843)],[(6,1057933884),(8,1037557967)],[(5,1056395723),(7,1044051130)],[(4,1058262330),(6,1048851109)],[(3,3203488751)],[(2,3196334757)],[(1,3191534778),(3,3203879371)],[(0,3185041615),(2,3205417532)],[(1,3206670491)],[(0,3207922931)]]⟩,[⟨[],[[],[(0,1055193390)],[(1,1058579999)],[(2,1060037020)],[(3,1060828346)],[(4,1061080998)],[(5,1060828346)],[(6,1060037020)],[(7,1058579999)],[(8,1055193390)],[]]⟩,
  ⟨[],[[(0,1060439283)],[(1,1059186843)],[(0,3185041615),(2,1057933884)],[(1,3191534778),(3,1056395723)],[(2,3196334757)],[(5,3203488751)],[(4,1058262330),(6,3196334757)],[(5,1056395723),(7,3191534778)],[(6,1057933884),(8,3185041615)],[(7,1059186843)],[(8,1060439283)]]⟩]⟩
def seg66 : Seg := ⟨64,144,10,⟨[0,1,2,3,4,5,6],[[(6,1060439283)],[(5,1057765260)],[(4,1053885932)],[(3,1053885932)],[(4,3191964815),(6,3175603525)],[(1,1042153907)],[(0,1028119877),(2,3191964815)],[],[(2,3201369580)],[(1,3205248908)],[(0,3207922931)]]⟩,[⟨[],[[],[(6,1055193390)],[(5,1057239717)],[(4,1056964608),(6,1040462501)],[(3,1058931123),(5,1047840871)],[(2,3204043926)],[(1,3195324519)],[(0,3187946149),(2,3204448256)],[(1,3204723365)],[(0,3202677038)],[]]⟩,
  ⟨[],[[],[],[(0,1052439738)],[(1,1057765260)],[(2,1059559266)],[(3,1060153379)],[(4,1059559266)],[(5,1057765260)],[(6,1052439738)],[],[]]⟩,
  ⟨[],[[],[(0,1055193390)],[(1,1057239717)],[(0,3187946149),(2,1056964608)],[(1,3195324519)],[(4,3204043926)],[(3,1058931123),(5,3195324519)],[(4,1056964608),(6,3187946149)],[(5,1057239717)],[(6,1055193390)],[]]⟩,
  ⟨[],[[(0,1060439283)],[(1,1057765260)],[(2,1053885932)],[],[(0,1028119877),(2,1044481167)],[(5,1042153907)],[(4,3191964815),(6,1028119877)],[(3,1053885932)],[(4,1053885932)],[(5,1057765260)],[(6,1060439283)]]⟩]⟩
def seg67 : Seg := ⟨144,64,10,⟨[0,1,2,3,4],[[(4,1060439283)],[(3,1055193390)],[(2,1052439738)],[(3,3187946149)],[(4,1028119877)],[],[(0,1028119877)],[(1,3187946149)],[],[(1,3202677038)],[(0,3207922931)]]⟩,[⟨[],[[],[(4,1057765260)],[(3,1057239717)],[(2,1057765260)],[(3,3195324519)],[(0,1042153907)],[(1,3195324519)],[],[(1,3204723365)],[(0,3205248908)],[]]⟩,
  ⟨[],[[],[],[(4,1053885932)],[(3,1056964608)],[(2,1059559266),(4,1044481167)],[(1,3204043926)],[(0,3191964815)],[(1,3204448256)],[(0,3201369580)],[],[]]⟩,
  ⟨[],[[],[],[],[(0,1053885932)],[(1,1058931123)],[(2,1060153379)],[(3,1058931123)],[(4,1053885932)],[],[],[]]⟩,
  ⟨[],[[],[],[(0,1053885932)],[(1,1056964608)],[(0,3191964815)],[(3,3204043926)],[(2,1059559266),(4,3191964815)],[(3,1056964608)],[(4,1053885932)],[],[]]⟩,
  ⟨[],[[],[(0,1057765260)],[(1,1057239717)],[],[(1,1047840871)],[(4,1042153907)],[(3,3195324519)],[(2,1057765260)],[(3,1057239717)],[(4,1057765260)],[]]⟩,
  ⟨[],[[(0,1060439283)],[(1,1055193390)],[],[(1,1040462501)],[(0,3175603525)],[],[(4,1028119877)],[(3,3187946149)],[(2,1052439738)],[(3,1055193390)],[(4,1060439283)]]⟩]⟩
def seg68 : Seg := ⟨144,256,10,⟨[0,1,2,3,4,5,6,8],[[(6,3198075828)],[(5,3201630528)],[(4,3206464436)],[(5,1053619915)],[(6,3198441018),(8,3186090989)],[(1,1050592180)],[(0,1038607341),(2,3198441018)],[(3,1053619915)],[],[(3,1054146880)],[(2,1050592180)]]⟩,[⟨[7],[[(7,1056080968)],[(6,1050933410)],[(5,1034156194)],[(4,3193155482),(8,1048213598)],[(5,1050550809),(7,1052251762)],[(2,3205141691)],[(1,3199735410),(3,1050550809)],[(0,3195697246)],[(3,3181639842)],[(2,3198417058)],[(1,3203564616)]]⟩,
  ⟨[],[[(8,3201886686)],[(7,1036125037)],[(6,1051000365),(8,3200385901)],[(5,1051285832),(7,3200517664)],[(4,1049307199),(6,3195225665)],[(3,1022879413)],[(2,1047742017)],[(1,1053034016),(3,3198769480)],[(0,1052902253),(2,3198484013)],[(1,3183608685)],[(0,1054403038)]]⟩,
  ⟨[],[[],[(0,3207071040)],[(1,3198682432)],[(2,1033021707)],[(3,1052389143)],[(4,1055917952)],[(5,1052389143)],[(6,1033021707)],[(7,3198682432)],[(8,3207071040)],[]]⟩,
  ⟨[],[[(0,3201886686)],[(1,1036125037)],[(0,1052902253),(2,1051000365)],[(1,1053034016),(3,1051285832)],[(2,1047742017)],[(5,1022879413)],[(4,1049307199),(6,1047742017)],[(5,1051285832),(7,1053034016)],[(6,1051000365),(8,1052902253)],[(7,1036125037)],[(8,3201886686)]]⟩,
  ⟨[],[[(1,1056080968)],[(2,1050933410)],[(3,1034156194)],[(0,3195697246)],[(1,3199735410),(3,3198034457)],[(6,3205141691)],[(5,1050550809),(7,3199735410)],[(4,3193155482),(8,3195697246)],[(5,1034156194)],[(6,1050933410)],[(7,1056080968)]]⟩,
  ⟨[],[[(2,3198075828)],[(3,3201630528)],[],[(3,3201103563)],[(0,1038607341),(2,1050957370)],[(7,1050592180)],[(6,3198441018),(8,1038607341)],[(5,1053619915)],[(4,3206464436)],[(5,3201630528)],[(6,3198075828)]]⟩]⟩
def seg69 : Seg := ⟨256,16,10,⟨[0,1,2],[[(2,1060439283)],[(1,1055193390)],[(2,3185041615)],[],[],[],[],[],[(0,3185041615)],[],[(0,3207922931)]]⟩,[⟨[],[[],[(2,1059186843)],[(1,1058579999)],[(2,3191534778)],[],[],[],[(0,3191534778)],[],[(0,3206670491)],[]]⟩,
  ⟨[],[[],[],[(2,1057933884)],[(1,1060037020)],[(2,3196334757)],[],[(0,3196334757)],[],[(0,3205417532)],[],[]]⟩,
  ⟨[],[[],[],[],[(2,1056395723)],[(1,1060828346)],[(0,3203488751)],[],[(0,3203879371)],[],[],[]]⟩,
  ⟨[],[[],[],[],[],[(0,1058262330)],[(1,1061080998)],[(2,1058262330)],[],[],[],[]]⟩,
  ⟨[],[[],[],[],[(0,1056395723)],[],[(2,3203488751)],[(1,1060828346)],[(2,1056395723)],[],[],[]]⟩,
  ⟨[],[[],[],[(0,1057933884)],[],[(0,1048851109)],[],[(2,3196334757)],[(1,1060037020)],[(2,1057933884)],[],[]]⟩,
  ⟨[],[[],[(0,1059186843)],[],[(0,1044051130)],[],[],[],[(2,3191534778)],[(1,1058579999)],[(2,1059186843)],[]]⟩,
  ⟨[],[[(0,1060439283)],[],[(0,1037557967)],[],[],[],[],[],[(2,3185041615)],[(1,1055193390)],[(2,1060439283)]]⟩]⟩
def seg70 : Seg := ⟨256,144,10,⟨[0,1,2,3,4,5,6],[[(4,3201886686)],[(3,3207071040)],[(4,1052902253)],[(5,3195697246)],[(6,1038607341)],[],[(0,1038607341)],[(1,3195697246)],[(2,1052902253)],[],[(2,1054403038)]]⟩,[⟨[],[[(5,1056080968)],[(4,1036125037)],[(3,3198682432)],[(4,1053034016)],[(5,3199735410)],[(0,1050592180)],[(1,3199735410)],[(2,1053034016)],[],[(2,3183608685)],[(1,3203564616)]]⟩,
  ⟨[],[[(6,3198075828)],[(5,1050933410)],[(4,1051000365)],[(3,1033021707)],[(4,1047742017),(6,1050957370)],[(1,3205141691)],[(0,3198441018),(2,1047742017)],[],[(2,3198484013)],[(1,3198417058)],[(0,1050592180)]]⟩,
  ⟨[],[[],[(6,3201630528)],[(5,1034156194)],[(4,1051285832),(6,3201103563)],[(3,1052389143),(5,3198034457)],[(2,1022879413)],[(1,1050550809)],[(0,1053619915),(2,3198769480)],[(1,3181639842)],[(0,1054146880)],[]]⟩,
  ⟨[],[[],[],[(0,3206464436)],[(1,3193155482)],[(2,1049307199)],[(3,1055917952)],[(4,1049307199)],[(5,3193155482)],[(6,3206464436)],[],[]]⟩,
  ⟨[],[[],[(0,3201630528)],[(1,1034156194)],[(0,1053619915),(2,1051285832)],[(1,1050550809)],[(4,1022879413)],[(3,1052389143),(5,1050550809)],[(4,1051285832),(6,1053619915)],[(5,1034156194)],[(6,3201630528)],[]]⟩,
  ⟨[],[[(0,3198075828)],[(1,1050933410)],[(2,1051000365)],[],[(0,3198441018),(2,3195225665)],[(5,3205141691)],[(4,1047742017),(6,3198441018)],[(3,1033021707)],[(4,1051000365)],[(5,1050933410)],[(6,3198075828)]]⟩,
  ⟨[],[[(1,1056080968)],[(2,1036125037)],[],[(2,3200517664)],[(1,1052251762)],[(6,1050592180)],[(5,3199735410)],[(4,1053034016)],[(3,3198682432)],[(4,1036125037)],[(5,1056080968)]]⟩,
  ⟨[],[[(2,3201886686)],[],[(2,3200385901)],[(1,1048213598)],[(0,3186090989)],[],[(6,1038607341)],[(5,3195697246)],[(4,1052902253)],[(3,3207071040)],[(4,3201886686)]]⟩]⟩
def seg71 : Seg := ⟨64,256,10,⟨[0,1,2,3,4,5,6,7,8],[[(1,1053885932)],[(2,1056395723)],[(3,1056395723)],[(0,1037557967)],[(1,1045032830),(3,1052692390)],[(6,1053885932)],[(5,3200176038),(7,1045032830)],[(4,1059038432),(8,1037557967)],[(5,1056395723)],[(6,1056395723)],[(7,1053885932)]]⟩,[⟨[],[[(0,3205745978)],[(1,3196334757)],[(0,3196334757)],[(1,3200176038),(3,1045032830)],[(2,3201818831)],[(5,3205745978)],[(4,1056005103),(6,3201818831)],[(5,1045032830),(7,3200176038)],[(8,3196334757)],[(7,3196334757)],[(8,3205745978)]]⟩,
  ⟨[],[[],[(8,1059186843)],[(7,1059186843)],[(6,1056395723)],[(5,1048851109)],[],[(3,3196334757)],[(2,3203879371)],[(1,3206670491)],[(0,3206670491)],[]]⟩,
  ⟨[],[[(8,1058262330)],[(7,1048851109)],[(8,3196334757)],[(5,3192516478),(7,3200176038)],[(4,3203488751),(6,3201818831)],[(3,1058262330)],[(2,1054335183)],[(1,1052692390),(3,1045032830)],[(0,1048851109)],[(1,3196334757)],[(0,3205745978)]]⟩,
  ⟨[],[[(7,3201369580)],[(6,3203879371)],[(5,3203879371)],[(4,3206522080),(8,1037557967)],[(5,1052692390),(7,1045032830)],[(2,3201369580)],[(1,3192516478),(3,1052692390)],[(0,3185041615)],[(3,1056395723)],[(2,1056395723)],[(1,1053885932)]]⟩]⟩
def seg72 : Seg := ⟨144,144,10,⟨[1,2,3,4,5,6],[[(1,1056964608)],[(2,1056964608)],[],[(2,1049873722)],[(1,3190859811)],[(6,3185538179)],[(5,1043376163)],[(4,3197357370)],[(3,1058262330)],[(4,1056964608)],[(5,1056964608)]]⟩,[⟨[0],[[(0,3204448256)],[],[(2,1049873722)],[],[(0,1043376163),(2,1053639091)],[(5,1054831747)],[(4,3201122739),(6,1043376163)],[(3,1058262330)],[(4,1049873722)],[],[(6,3204448256)]]⟩,
  ⟨[],[[],[(0,3204448256)],[(1,3197357370)],[(0,3197357370)],[(1,3201122739)],[(4,3205212370)],[(3,1051764771),(5,3201122739)],[(6,3197357370)],[(5,3197357370)],[(6,3204448256)],[]]⟩,
  ⟨[],[[],[],[(6,1058262330)],[(5,1058262330)],[(4,1051764771)],[],[(2,3199248419)],[(1,3205745978)],[(0,3205745978)],[],[]]⟩,
  ⟨[],[[],[(6,1056964608)],[(5,1049873722)],[(6,3197357370)],[(3,3199248419),(5,3201122739)],[(2,1057728722)],[(1,1053639091)],[(0,1049873722)],[(1,3197357370)],[(0,3204448256)],[]]⟩,
  ⟨[],[[(6,1056964608)],[],[(4,3197357370)],[(3,3205745978)],[(4,1053639091),(6,1043376163)],[(1,3202315395)],[(0,3190859811),(2,1053639091)],[],[(2,1049873722)],[],[(0,3204448256)]]⟩,
  ⟨[],[[(5,3204448256)],[(4,3204448256)],[(3,3205745978)],[(4,1049873722)],[(5,3190859811)],[(0,1038054531)],[(1,3190859811)],[(2,1049873722)],[],[(2,1056964608)],[(1,1056964608)]]⟩]⟩
def seg73 : Seg := ⟨256,64,10,⟨[0,1,2,3,4],[[(1,1058262330)],[],[(1,1048851109)],[(0,3185041615)],[],[],[],[(4,1037557967)],[(3,3196334757)],[(2,1059186843)],[(3,1058262330)]]⟩,[⟨[],[[(0,3201369580)],[(1,1048851109)],[],[(1,1052692390)],[(0,3192516478)],[],[(4,1045032830)],[(3,3200176038)],[(2,1059186843)],[(3,1048851109)],[(4,3201369580)]]⟩,
  ⟨[],[[],[(0,3203879371)],[],[],[(1,1054335183)],[(4,1053885932)],[(3,3201818831)],[(2,1056395723)],[],[(4,3203879371)],[]]⟩,
  ⟨[],[[],[],[(0,3203879371)],[(1,3192516478)],[(0,3200176038)],[(3,3205745978)],[(2,1048851109),(4,3200176038)],[(3,3192516478)],[(4,3203879371)],[],[]]⟩,
  ⟨[],[[],[],[],[(4,1059038432)],[(3,1056005103)],[],[(1,3203488751)],[(0,3206522080)],[],[],[]]⟩,
  ⟨[],[[],[],[(4,1056395723)],[(3,1045032830)],[(2,3196334757),(4,3200176038)],[(1,1058262330)],[(0,1052692390)],[(1,3192516478)],[(0,3203879371)],[],[]]⟩,
  ⟨[],[[],[(4,1056395723)],[],[(2,3203879371)],[(3,1054335183)],[(0,3201369580)],[(1,1054335183)],[],[],[(0,3203879371)],[]]⟩,
  ⟨[],[[(4,1053885932)],[(3,3196334757)],[(2,3206670491)],[(3,1052692390)],[(4,3192516478)],[],[(0,3192516478)],[(1,1052692390)],[],[(1,1048851109)],[(0,3201369580)]]⟩,
  ⟨[],[[(3,3205745978)],[(2,3206670491)],[(3,1048851109)],[(4,3185041615)],[],[],[],[(0,3185041615)],[(1,1048851109)],[],[(1,1058262330)]]⟩]⟩
def seg74 : Seg := ⟨256,256,10,⟨[1,2,3,4,5,6,7,8],[[(3,3196977365)],[],[(3,3201544090)],[(2,1052201806)],[(1,3196166514)],[(8,3191690865)],[(7,1048682866)],[(6,3199685454)],[(5,1054060442)],[(4,3205365973)],[(5,3196977365)]]⟩,[⟨[0],[[(2,1054146880)],[(3,1050592180)],[],[(3,3191296846)],[(0,1048682866),(2,1051425847)],[(7,1057106798)],[(6,3198909495),(8,1048682866)],[(5,1043813198)],[(4,1035818609)],[(5,1050592180)],[(6,1054146880)]]⟩,
  ⟨[],[[(1,3201630528)],[],[(3,1049363552)],[(0,3199685454)],[(1,3198909495),(3,1040294258)],[(6,3191690865)],[(5,3187777906),(7,3198909495)],[(4,1054403038),(8,3199685454)],[(5,1049363552)],[],[(7,3201630528)]]⟩,
  ⟨[],[[(0,1049493717)],[(1,3198075828)],[(0,1054060442),(2,3196847200)],[(1,1043813198)],[(2,3187777906)],[(5,3201630528)],[(4,1051585266),(6,3187777906)],[(7,1043813198)],[(6,3196847200),(8,1054060442)],[(7,3198075828)],[(8,1049493717)]]⟩,
  ⟨[],[[],[(8,3205365973)],[(7,1035818609)],[(6,1054403038)],[(5,1051585266)],[],[(3,3199068914)],[(2,3201886686)],[(1,3183302257)],[(0,1057882325)],[]]⟩,
  ⟨[],[[(8,3196977365)],[(7,1050592180)],[(6,1049363552),(8,1054060442)],[(7,1043813198)],[(4,3199068914),(6,3187777906)],[(3,1054146880)],[(2,1040294258)],[(1,3191296846)],[(0,3201544090),(2,3196847200)],[(1,3198075828)],[(0,1049493717)]]⟩,
  ⟨[],[[(7,1054146880)],[],[(5,3196847200)],[(4,3201886686),(8,3199685454)],[(5,1040294258),(7,3198909495)],[(2,1044207217)],[(1,1051425847),(3,1040294258)],[(0,1052201806)],[(3,1049363552)],[],[(1,3201630528)]]⟩,
  ⟨[],[[(6,3201630528)],[(5,3198075828)],[(4,3183302257)],[(5,3191296846)],[(6,1051425847),(8,1048682866)],[(1,3204590446)],[(0,3196166514),(2,1051425847)],[(3,3191296846)],[],[(3,1050592180)],[(2,1054146880)]]⟩,
  ⟨[],[[(5,1049493717)],[(4,1057882325)],[(5,3201544090)],[(6,1052201806)],[(7,3196166514)],[(0,1044207217)],[(1,3196166514)],[(2,1052201806)],[(3,3201544090)],[],[(3,3196977365)]]⟩]⟩
def seg75 : Seg := ⟨144,256,12,⟨[0,1,2,3,4,5,6,7,8],[[(1,1055720076)],[(2,1056964608)],[(3,1055362955)],[],[(3,1049422945)],[(0,3174993964),(2,3191673227)],[(7,3189399474)],[(6,1044189579),(8,3174993964)],[(5,3196906593)],[(4,1057337615)],[(5,1055362955)],[(6,1056964608)],[(7,1055720076)]]⟩,[⟨[],[[(0,3205027447)],[(1,3185538179)],[(2,1043480938)],[(3,1051498589)],[(0,1039533080)],[(1,1047120845),(3,1053302745)],[(6,1055641429)],[(5,3200786393),(7,1047120845)],[(4,1058114439),(8,1039533080)],[(5,1051498589)],[(6,1043480938)],[(7,3185538179)],[(8,3205027447)]]⟩,
  ⟨[],[[],[(0,3204043926)],[(1,3200012567)],[(0,3194577962),(2,3189399474)],[(1,3199387910),(3,1032948615)],[(2,3201001413)],[(5,3204698717)],[(4,1052110440),(6,3201001413)],[(5,1032948615),(7,3199387910)],[(6,3189399474),(8,3194577962)],[(7,3200012567)],[(8,3204043926)],[]]⟩,
  ⟨[],[[],[],[(8,1057126461)],[(7,1058510738)],[(6,1056708452)],[(5,1049422945)],[],[(3,3196906593)],[(2,3204192100)],[(1,3205994386)],[(0,3204610109)],[],[]]⟩,
  ⟨[],[[],[(8,1056560278)],[(7,1052528919)],[(6,1041915826),(8,3194577962)],[(5,3180432263),(7,3199387910)],[(4,3199594088),(6,3201001413)],[(3,1057215069)],[(2,1053517765)],[(1,1051904262),(3,1032948615)],[(0,1047094314),(2,3189399474)],[(1,3200012567)],[(0,3204043926)],[]]⟩,
  ⟨[],[[(8,1057543799)],[(7,1038054531)],[(6,3190964586)],[(5,3198982237)],[(4,3205598087),(8,1039533080)],[(5,1053302745),(7,1047120845)],[(2,3203125077)],[(1,3194604493),(3,1053302745)],[(0,3187016728)],[(3,1051498589)],[(2,1043480938)],[(1,3185538179)],[(0,3205027447)]]⟩,
  ⟨[],[[(7,3203203724)],[(6,3204448256)],[(5,3202846603)],[(4,3204821263)],[(5,1049422945)],[(6,3191673227),(8,3174993964)],[(1,1041915826)],[(0,1027510316),(2,3191673227)],[(3,1049422945)],[],[(3,1055362955)],[(2,1056964608)],[(1,1055720076)]]⟩]⟩
def seg76 : Seg := ⟨256,144,12,⟨[0,1,2,3,4,5,6],[[(1,1057543799)],[(2,1056560278)],[],[(2,1047094314)],[(1,3187016728)],[(0,1027510316)],[],[(6,3174993964)],[(5,1039533080)],[(4,3194577962)],[(3,1057126461)],[(4,1056560278)],[(5,1057543799)]]⟩,[⟨[],[[(0,3203203724)],[(1,1038054531)],[(2,1052528919)],[],[(2,1051904262)],[(1,3194604493)],[(6,3189399474)],[(5,1047120845)],[(4,3199387910)],[(3,1058510738)],[(4,1052528919)],[(5,1038054531)],[(6,3203203724)]]⟩,
  ⟨[],[[],[(0,3204448256)],[(1,3190964586)],[(2,1041915826)],[],[(0,1044189579),(2,1053517765)],[(5,1055641429)],[(4,3201001413),(6,1044189579)],[(3,1056708452)],[(4,1041915826)],[(5,3190964586)],[(6,3204448256)],[]]⟩,
  ⟨[],[[],[],[(0,3202846603)],[(1,3198982237)],[(0,3196906593),(2,3180432263)],[(1,3200786393)],[(4,3204698717)],[(3,1049422945),(5,3200786393)],[(4,3180432263),(6,3196906593)],[(5,3198982237)],[(6,3202846603)],[],[]]⟩,
  ⟨[],[[],[],[],[(6,1057337615)],[(5,1058114439)],[(4,1052110440)],[],[(2,3199594088)],[(1,3205598087)],[(0,3204821263)],[],[],[]]⟩,
  ⟨[],[[],[],[(6,1055362955)],[(5,1051498589)],[(4,1032948615),(6,3196906593)],[(3,3196906593),(5,3200786393)],[(2,1057215069)],[(1,1053302745)],[(0,1049422945),(2,3180432263)],[(1,3198982237)],[(0,3202846603)],[],[]]⟩,
  ⟨[],[[],[(6,1056964608)],[(5,1043480938)],[(4,3189399474)],[(3,3204192100)],[(4,1053517765),(6,1044189579)],[(1,3203125077)],[(0,3191673227),(2,1053517765)],[],[(2,1041915826)],[(1,3190964586)],[(0,3204448256)],[]]⟩,
  ⟨[],[[(6,1055720076)],[(5,3185538179)],[(4,3200012567)],[(3,3205994386)],[(4,1051904262)],[(5,3194604493)],[(0,1041915826)],[(1,3194604493)],[(2,1051904262)],[],[(2,1052528919)],[(1,1038054531)],[(0,3203203724)]]⟩,
  ⟨[],[[(5,3205027447)],[(4,3204043926)],[(3,3204610109)],[(4,1047094314)],[(5,3187016728)],[(6,1027510316)],[],[(0,1027510316)],[(1,3187016728)],[(2,1047094314)],[],[(2,1056560278)],[(1,1057543799)]]⟩]⟩
def seg77 : Seg := ⟨64,256,12,⟨[0,1,2,3,4,5,6,7,8],[[(8,1060439283)],[(7,1058262330)],[(6,1055641429)],[(5,1052158037)],[(4,1052805560),(8,3171036655)],[(5,3191900600),(7,3180432263)],[(2,1043480938)],[(1,1032948615),(3,3191900600)],[(0,1023553007)],[(3,3199641685)],[(2,3203125077)],[(1,3205745978)],[(0,3207922931)]]⟩,[⟨[],[[],[(8,1053885932)],[(7,1056708452)],[(6,1057040525),(8,1036207334)],[(5,1056148253),(7,1043864061)],[(4,1058551538),(6,1049109784)],[(3,3204192100)],[(2,3196593432)],[(1,3191347709),(3,3203631901)],[(0,3183690982),(2,3204524173)],[(1,3204192100)],[(0,3201369580)],[]]⟩,
  ⟨[],[[],[],[(0,1050304434)],[(1,1055860646)],[(2,1058349991)],[(3,1059503654)],[(4,1059887197)],[(5,1059503654)],[(6,1058349991)],[(7,1055860646)],[(8,1050304434)],[],[]]⟩,
  ⟨[],[[],[(0,1053885932)],[(1,1056708452)],[(0,3183690982),(2,1057040525)],[(1,3191347709),(3,1056148253)],[(2,3196593432)],[(5,3204192100)],[(4,1058551538),(6,3196593432)],[(5,1056148253),(7,3191347709)],[(6,1057040525),(8,3183690982)],[(7,1056708452)],[(8,1053885932)],[]]⟩,
  ⟨[],[[(0,1060439283)],[(1,1058262330)],[(2,1055641429)],[(3,1052158037)],[(0,1023553007)],[(1,1032948615),(3,1044416952)],[(6,1043480938)],[(5,3191900600),(7,1032948615)],[(4,1052805560),(8,1023553007)],[(5,1052158037)],[(6,1055641429)],[(7,1058262330)],[(8,1060439283)]]⟩]⟩
def seg78 : Seg := ⟨144,144,12,⟨[0,1,2,3,4,5,6],[[(6,1060439283)],[(5,1056964608)],[(4,1051498589)],[(3,1050304434)],[(4,3187414884)],[(5,1031542628)],[(0,3171336094)],[(1,1031542628)],[(2,3187414884)],[],[(2,3198982237)],[(1,3204448256)],[(0,3207922931)]]⟩,[⟨[],[[],[(6,1056964608)],[(5,1057337615)],[(4,1055362955)],[(3,1056708452)],[(4,3195278880),(6,3179026276)],[(1,1045045101)],[(0,1031542628),(2,3195278880)],[],[(2,3202846603)],[(1,3204821263)],[(0,3204448256)],[]]⟩,
  ⟨[],[[],[],[(6,1051498589)],[(5,1055362955)],[(4,1056183840),(6,1039931236)],[(3,1058901663),(5,1047795232)],[(2,3204228937)],[(1,3195278880)],[(0,3187414884),(2,3203667488)],[(1,3202846603)],[(0,3198982237)],[],[]]⟩,
  ⟨[],[[],[],[],[(0,1050304434)],[(1,1056708452)],[(2,1058901663)],[(3,1059614598)],[(4,1058901663)],[(5,1056708452)],[(6,1050304434)],[],[],[]]⟩,
  ⟨[],[[],[],[(0,1051498589)],[(1,1055362955)],[(0,3187414884),(2,1056183840)],[(1,3195278880)],[(4,3204228937)],[(3,1058901663),(5,3195278880)],[(4,1056183840),(6,3187414884)],[(5,1055362955)],[(6,1051498589)],[],[]]⟩,
  ⟨[],[[],[(0,1056964608)],[(1,1057337615)],[(2,1055362955)],[],[(0,1031542628),(2,1047795232)],[(5,1045045101)],[(4,3195278880),(6,1031542628)],[(3,1056708452)],[(4,1055362955)],[(5,1057337615)],[(6,1056964608)],[]]⟩,
  ⟨[],[[(0,1060439283)],[(1,1056964608)],[(2,1051498589)],[],[(2,1039931236)],[(1,3179026276)],[(6,3171336094)],[(5,1031542628)],[(4,3187414884)],[(3,1050304434)],[(4,1051498589)],[(5,1056964608)],[(6,1060439283)]]⟩]⟩
def seg79 : Seg := ⟨256,64,12,⟨[0,1,2,3,4],[[(4,1060439283)],[(3,1053885932)],[(2,1050304434)],[(3,3183690982)],[(4,1023553007)],[],[],[],[(0,1023553007)],[(1,3183690982)],[],[(1,3201369580)],[(0,3207922931)]]⟩,[⟨[],[[],[(4,1058262330)],[(3,1056708452)],[(2,1055860646)],[(3,3191347709)],[(4,1032948615)],[],[(0,1032948615)],[(1,3191347709)],[],[(1,3204192100)],[(0,3205745978)],[]]⟩,
  ⟨[],[[],[],[(4,1055641429)],[(3,1057040525)],[(2,1058349991)],[(3,3196593432)],[(0,1043480938)],[(1,3196593432)],[],[(1,3204524173)],[(0,3203125077)],[],[]]⟩,
  ⟨[],[[],[],[],[(4,1052158037)],[(3,1056148253)],[(2,1059503654),(4,1044416952)],[(1,3204192100)],[(0,3191900600)],[(1,3203631901)],[(0,3199641685)],[],[],[]]⟩,
  ⟨[],[[],[],[],[],[(0,1052805560)],[(1,1058551538)],[(2,1059887197)],[(3,1058551538)],[(4,1052805560)],[],[],[],[]]⟩,
  ⟨[],[[],[],[],[(0,1052158037)],[(1,1056148253)],[(0,3191900600)],[(3,3204192100)],[(2,1059503654),(4,3191900600)],[(3,1056148253)],[(4,1052158037)],[],[],[]]⟩,
  ⟨[],[[],[],[(0,1055641429)],[(1,1057040525)],[],[(1,1049109784)],[(4,1043480938)],[(3,3196593432)],[(2,1058349991)],[(3,1057040525)],[(4,1055641429)],[],[]]⟩,
  ⟨[],[[],[(0,1058262330)],[(1,1056708452)],[],[(1,1043864061)],[(0,3180432263)],[],[(4,1032948615)],[(3,3191347709)],[(2,1055860646)],[(3,1056708452)],[(4,1058262330)],[]]⟩,
  ⟨[],[[(0,1060439283)],[(1,1053885932)],[],[(1,1036207334)],[(0,3171036655)],[],[],[],[(4,1023553007)],[(3,3183690982)],[(2,1050304434)],[(3,1053885932)],[(4,1060439283)]]⟩]⟩
def seg80 : Seg := ⟨256,256,12,⟨[0,1,2,3,4,5,6,7],[[(6,3199923386)],[(5,3202677038)],[(4,3206176690)],[(5,1051869546)],[(6,3195803492)],[(7,1041572775)],[(0,3182959101)],[(1,1041572775)],[(2,3195803492)],[(3,1051869546)],[],[(3,1055193390)],[(2,1052439738)]]⟩,[⟨[8],[[(7,1056395723)],[(6,1046804782)],[(5,3179942781)],[(4,3200732085)],[(5,1052578187)],[(6,3199677259),(8,3189056423)],[(1,1053006748)],[(0,1041572775),(2,3199677259)],[(3,1052578187)],[],[(3,1032459133)],[(2,3194288430)],[(1,3203879371)]]⟩,
  ⟨[],[[(8,3199923386)],[(7,1046804782)],[(6,1052158037)],[(5,1047252821)],[(8,1048319844)],[(5,1046459771),(7,1052193611)],[(2,3204260795)],[(1,3199677259),(3,1046459771)],[(0,3195803492)],[(3,3194736469)],[(2,3199641685)],[(1,3194288430)],[(0,1052439738)]]⟩,
  ⟨[],[[],[(8,3202677038)],[(7,3179942781)],[(6,1047252821),(8,3199353194)],[(5,1051115046),(7,3200061835)],[(4,1051115046),(6,3193943419)],[(3,3166181885)],[(2,1046459771)],[(1,1052578187),(3,3198598694)],[(0,1051869546),(2,3194736469)],[(1,1032459133)],[(0,1055193390)],[]]⟩,
  ⟨[],[[],[],[(0,3206176690)],[(1,3200732085)],[],[(3,1051115046)],[(4,1055268988)],[(5,1051115046)],[],[(7,3200732085)],[(8,3206176690)],[],[]]⟩,
  ⟨[],[[],[(0,3202677038)],[(1,3179942781)],[(0,1051869546),(2,1047252821)],[(1,1052578187),(3,1051115046)],[(2,1046459771)],[(5,3166181885)],[(4,1051115046),(6,1046459771)],[(5,1051115046),(7,1052578187)],[(6,1047252821),(8,1051869546)],[(7,3179942781)],[(8,3202677038)],[]]⟩,
  ⟨[],[[(0,3199923386)],[(1,1046804782)],[(2,1052158037)],[(3,1047252821)],[(0,3195803492)],[(1,3199677259),(3,3193943419)],[(6,3204260795)],[(5,1046459771),(7,3199677259)],[(8,3195803492)],[(5,1047252821)],[(6,1052158037)],[(7,1046804782)],[(8,3199923386)]]⟩,
  ⟨[],[[(1,1056395723)],[(2,1046804782)],[(3,3179942781)],[],[(3,3200061835)],[(0,1041572775),(2,1052193611)],[(7,1053006748)],[(6,3199677259),(8,1041572775)],[(5,1052578187)],[(4,3200732085)],[(5,3179942781)],[(6,1046804782)],[(7,1056395723)]]⟩,
  ⟨[],[[(2,3199923386)],[(3,3202677038)],[],[(3,3199353194)],[(2,1048319844)],[(1,3189056423)],[(8,3182959101)],[(7,1041572775)],[(6,3195803492)],[(5,1051869546)],[(4,3206176690)],[(5,3202677038)],[(6,3199923386)]]⟩]⟩
def seg81 : Seg := ⟨144,256,14,⟨[0,1,2,3,4,5,6,7,8],[[(8,1060439283)],[(7,1057543799)],[(6,1053348523)],[(5,1049493717)],[(4,1049060625)],[(5,3186766745)],[(6,1032574411),(8,1012099374)],[(1,3175465402)],[(0,3159583022),(2,1032574411)],[(3,3186766745)],[],[(3,3196977365)],[(2,3200832171)],[(1,3205027447)],[(0,3207922931)]]⟩,[⟨[],[[],[(8,1055720076)],[(7,1057191983)],[(6,1056306420)],[(5,1053933745)],[(4,1055556282),(8,3172896482)],[(5,3195155353),(7,3182892625)],[(2,1046646542)],[(1,1035408977),(3,3195155353)],[(0,1025412834)],[(3,3201417393)],[(2,3203790068)],[(1,3204675631)],[(0,3203203724)],[]]⟩,
  ⟨[],[[],[],[(8,1049820354)],[(7,1053810457)],[(6,1055556282),(8,1035027965)],[(5,1055556282),(7,1043416573)],[(4,1058496576),(6,1049060625)],[(3,3204271338)],[(2,3196544273)],[(1,3190900221),(3,3203039930)],[(0,3182511613),(2,3203039930)],[(1,3201294105)],[(0,3197304002)],[],[]]⟩,
  ⟨[],[[],[],[],[(0,1047529344)],[(1,1053602459)],[(2,1057449233)],[(3,1058821927)],[(4,1059291447)],[(5,1058821927)],[(6,1057449233)],[(7,1053602459)],[(8,1047529344)],[],[],[]]⟩,
  ⟨[],[[],[],[(0,1049820354)],[(1,1053810457)],[(0,3182511613),(2,1055556282)],[(1,3190900221),(3,1055556282)],[(2,3196544273)],[(5,3204271338)],[(4,1058496576),(6,3196544273)],[(5,1055556282),(7,3190900221)],[(6,1055556282),(8,3182511613)],[(7,1053810457)],[(8,1049820354)],[],[]]⟩,
  ⟨[],[[],[(0,1055720076)],[(1,1057191983)],[(2,1056306420)],[(3,1053933745)],[(0,1025412834)],[(1,1035408977),(3,1047671705)],[(6,1046646542)],[(5,3195155353),(7,1035408977)],[(4,1055556282),(8,1025412834)],[(5,1053933745)],[(6,1056306420)],[(7,1057191983)],[(8,1055720076)],[]]⟩,
  ⟨[],[[(0,1060439283)],[(1,1057543799)],[(2,1053348523)],[(3,1049493717)],[],[(3,1039283097)],[(0,3159583022),(2,3180058059)],[(7,3175465402)],[(6,1032574411),(8,3159583022)],[(5,3186766745)],[(4,1049060625)],[(5,1049493717)],[(6,1053348523)],[(7,1057543799)],[(8,1060439283)]]⟩]⟩
def seg82 : Seg := ⟨256,144,14,⟨[0,1,2,3,4,5,6],[[(6,1060439283)],[(5,1055720076)],[(4,1049820354)],[(3,1047529344)],[(4,3182511613)],[(5,1025412834)],[(6,3159583022)],[],[(0,3159583022)],[(1,1025412834)],[(2,3182511613)],[],[(2,3197304002)],[(1,3203203724)],[(0,3207922931)]]⟩,[⟨[],[[],[(6,1057543799)],[(5,1057191983)],[(4,1053810457)],[(3,1053602459)],[(4,3190900221)],[(5,1035408977)],[(0,3175465402)],[(1,1035408977)],[(2,3190900221)],[],[(2,3201294105)],[(1,3204675631)],[(0,3205027447)],[]]⟩,
  ⟨[],[[],[],[(6,1053348523)],[(5,1056306420)],[(4,1055556282)],[(3,1057449233)],[(4,3196544273),(6,3180058059)],[(1,1046646542)],[(0,1032574411),(2,3196544273)],[],[(2,3203039930)],[(1,3203790068)],[(0,3200832171)],[],[]]⟩,
  ⟨[],[[],[],[],[(6,1049493717)],[(5,1053933745)],[(4,1055556282),(6,1039283097)],[(3,1058821927),(5,1047671705)],[(2,3204271338)],[(1,3195155353)],[(0,3186766745),(2,3203039930)],[(1,3201417393)],[(0,3196977365)],[],[],[]]⟩,
  ⟨[],[[],[],[],[],[(0,1049060625)],[(1,1055556282)],[(2,1058496576)],[(3,1059291447)],[(4,1058496576)],[(5,1055556282)],[(6,1049060625)],[],[],[],[]]⟩,
  ⟨[],[[],[],[],[(0,1049493717)],[(1,1053933745)],[(0,3186766745),(2,1055556282)],[(1,3195155353)],[(4,3204271338)],[(3,1058821927),(5,3195155353)],[(4,1055556282),(6,3186766745)],[(5,1053933745)],[(6,1049493717)],[],[],[]]⟩,
  ⟨[],[[],[],[(0,1053348523)],[(1,1056306420)],[(2,1055556282)],[],[(0,1032574411),(2,1049060625)],[(5,1046646542)],[(4,3196544273),(6,1032574411)],[(3,1057449233)],[(4,1055556282)],[(5,1056306420)],[(6,1053348523)],[],[]]⟩,
  ⟨[],[[],[(0,1057543799)],[(1,1057191983)],[(2,1053810457)],[],[(2,1043416573)],[(1,3182892625)],[(6,3175465402)],[(5,1035408977)],[(4,3190900221)],[(3,1053602459)],[(4,1053810457)],[(5,1057191983)],[(6,1057543799)],[]]⟩,
  ⟨[],[[(0,1060439283)],[(1,1055720076)],[(2,1049820354)],[],[(2,1035027965)],[(1,3172896482)],[(0,1012099374)],[],[(6,3159583022)],[(5,1025412834)],[(4,3182511613)],[(3,1047529344)],[(4,1049820354)],[(5,1055720076)],[(6,1060439283)]]⟩]⟩
def seg83 : Seg := ⟨256,256,14,⟨[1,2,3,4,5,6,7,8],[[(1,1056964608)],[(2,1056964608)],[(3,1054146880)],[],[(3,1045828597)],[(2,3187700320)],[(1,1031982533)],[(8,1024185803)],[(7,3179466181)],[(6,1040216672)],[(5,3193312245)],[(4,1054901984)],[(5,1054146880)],[(6,1056964608)],[(7,1056964608)]]⟩,[⟨[0],[[(0,3204448256)],[],[(2,1049493717)],[(3,1053348523)],[],[(3,1051411242)],[(0,3179466181),(2,3195482664)],[(7,3193028785)],[(6,1047999016),(8,3179466181)],[(5,3198894890)],[(4,1057987485)],[(5,1053348523)],[(6,1049493717)],[],[(8,3204448256)]]⟩,
  ⟨[],[[],[(0,3204448256)],[(1,3196977365)],[],[(3,1046646542)],[(0,1040216672)],[(1,1047999016),(3,1053045928)],[(6,1056224804)],[(5,3200529576),(7,1047999016)],[(4,1056787690),(8,1040216672)],[(5,1046646542)],[],[(7,3196977365)],[(8,3204448256)],[]]⟩,
  ⟨[],[[],[],[(0,3201630528)],[(1,3200832171)],[(0,3193312245),(2,3194130190)],[(1,3198894890)],[(2,3200529576)],[(5,3203708452)],[(4,1049771579),(6,3200529576)],[(7,3198894890)],[(6,3194130190),(8,3193312245)],[(7,3200832171)],[(8,3201630528)],[],[]]⟩,
  ⟨[],[[],[],[],[(8,1054901984)],[(7,1057987485)],[(6,1056787690)],[(5,1049771579)],[],[(3,3197255227)],[(2,3204271338)],[(1,3205471133)],[(0,3202385632)],[],[],[]]⟩,
  ⟨[],[[],[],[(8,1054146880)],[(7,1053348523)],[(6,1046646542),(8,3193312245)],[(7,3198894890)],[(4,3197255227),(6,3200529576)],[(3,1056224804)],[(2,1053045928)],[(1,1051411242)],[(0,1045828597),(2,3194130190)],[(1,3200832171)],[(0,3201630528)],[],[]]⟩,
  ⟨[],[[],[(8,1056964608)],[(7,1049493717)],[],[(5,3194130190)],[(4,3204271338),(8,1040216672)],[(5,1053045928),(7,1047999016)],[(2,3203708452)],[(1,3195482664),(3,1053045928)],[(0,3187700320)],[(3,1046646542)],[],[(1,3196977365)],[(0,3204448256)],[]]⟩,
  ⟨[],[[(8,1056964608)],[],[(6,3196977365)],[(5,3200832171)],[(4,3205471133)],[(5,1051411242)],[(6,3195482664),(8,3179466181)],[(1,1045545137)],[(0,1031982533),(2,3195482664)],[(3,1051411242)],[],[(3,1053348523)],[(2,1049493717)],[],[(0,3204448256)]]⟩,
  ⟨[],[[(7,3204448256)],[(6,3204448256)],[(5,3201630528)],[(4,3202385632)],[(5,1045828597)],[(6,3187700320)],[(7,1031982533)],[(0,3171669451)],[(1,1031982533)],[(2,3187700320)],[(3,1045828597)],[],[(3,1054146880)],[(2,1056964608)],[(1,1056964608)]]⟩]⟩
def seg84 : Seg := ⟨256,256,16,⟨[0,1,2,3,4,5,6,7,8],[[(8,1060439283)],[(7,1056964608)],[(6,1051648412)],[(5,1046804782)],[(4,1044959915)],[(5,3181639842)],[(6,1026245418)],[(7,3164155525)],[(0,1007709134)],[(1,3164155525)],[(2,1026245418)],[(3,3181639842)],[],[(3,3194288430)],[(2,3199132060)],[(1,3204448256)],[(0,3207922931)]]⟩,[⟨[],[[],[(8,1056964608)],[(7,1057239717)],[(6,1055193390)],[(5,1051959065)],[(4,1052201806)],[(5,3190506282)],[(6,1036690415),(8,1016671877)],[(1,3180358606)],[(0,3164155525),(2,1036690415)],[(3,3190506282)],[],[(3,3199442713)],[(2,3202677038)],[(1,3204723365)],[(0,3204448256)],[]]⟩,
  ⟨[],[[],[],[(8,1051648412)],[(7,1055193390)],[(6,1055759852)],[(5,1054403038)],[(4,1056787690),(8,3173729066)],[(5,3196455092),(7,3184174063)],[(2,1048362152)],[(1,1036690415),(3,3196455092)],[(0,1026245418)],[(3,3201886686)],[(2,3203243500)],[(1,3202677038)],[(0,3199132060)],[],[]]⟩,
  ⟨[],[[],[],[],[(8,1046804782)],[(7,1051959065)],[(6,1054403038),(8,1034156194)],[(5,1055035150),(7,1043022634)],[(4,1058396869),(6,1048971444)],[(3,3204234408)],[(2,3196455092)],[(1,3190506282),(3,3202518798)],[(0,3181639842),(2,3201886686)],[(1,3199442713)],[(0,3194288430)],[],[],[]]⟩,
  ⟨[],[[],[],[],[],[(0,1044959915)],[(1,1052201806)],[(2,1056787690)],[(3,1058396869)],[(4,1058928105)],[(5,1058396869)],[(6,1056787690)],[(7,1052201806)],[(8,1044959915)],[],[],[],[]]⟩,
  ⟨[],[[],[],[],[(0,1046804782)],[(1,1051959065)],[(0,3181639842),(2,1054403038)],[(1,3190506282),(3,1055035150)],[(2,3196455092)],[(5,3204234408)],[(4,1058396869),(6,3196455092)],[(5,1055035150),(7,3190506282)],[(6,1054403038),(8,3181639842)],[(7,1051959065)],[(8,1046804782)],[],[],[]]⟩,
  ⟨[],[[],[],[(0,1051648412)],[(1,1055193390)],[(2,1055759852)],[(3,1054403038)],[(0,1026245418)],[(1,1036690415),(3,1048971444)],[(6,1048362152)],[(5,3196455092),(7,1036690415)],[(4,1056787690),(8,1026245418)],[(5,1054403038)],[(6,1055759852)],[(7,1055193390)],[(8,1051648412)],[],[]]⟩,
  ⟨[],[[],[(0,1056964608)],[(1,1057239717)],[(2,1055193390)],[(3,1051959065)],[],[(3,1043022634)],[(0,3164155525),(2,3184174063)],[(7,3180358606)],[(6,1036690415),(8,3164155525)],[(5,3190506282)],[(4,1052201806)],[(5,1051959065)],[(6,1055193390)],[(7,1057239717)],[(8,1056964608)],[]]⟩,
  ⟨[],[[(0,1060439283)],[(1,1056964608)],[(2,1051648412)],[(3,1046804782)],[],[(3,1034156194)],[(2,3173729066)],[(1,1016671877)],[(8,1007709134)],[(7,3164155525)],[(6,1026245418)],[(5,3181639842)],[(4,1044959915)],[(5,1046804782)],[(6,1051648412)],[(7,1056964608)],[(8,1060439283)]]⟩]⟩

/-- The segments, block by block: each block is what one copy carries to the output. -/
def blocks : List (List Seg) := [
  [seg0, seg1, seg2, seg3, seg4, seg5, seg6, seg7, seg8, seg9, seg10, seg11, seg12, seg13],
  [seg14, seg15, seg16, seg17, seg18, seg19, seg20],
  [seg21, seg22, seg23, seg24, seg25, seg26],
  [seg27, seg28, seg29, seg30, seg31, seg32],
  [seg33, seg34, seg35, seg36],
  [seg37, seg38, seg39, seg40],
  [seg41, seg42, seg43, seg44],
  [seg45, seg46, seg47, seg48],
  [seg49, seg50, seg51],
  [seg52, seg53, seg54],
  [seg55, seg56, seg57],
  [seg58, seg59, seg60],
  [seg61, seg62, seg63],
  [seg64, seg65, seg66],
  [seg67, seg68],
  [seg69, seg70],
  [seg71, seg72],
  [seg73, seg74],
  [seg75, seg76],
  [seg77, seg78],
  [seg79, seg80],
  [seg81, seg82],
  [seg83, seg84]]

end TP
-- ==== Proof.Program.lean ====
/-
  The kernel as a program that walks the table of `Plan`: it is written once over the table, where the printed kernel
  is its unrolling. Nothing is proved here.
-/
module

public import Idealize.ShloMosaic.Lib.Pipeline
public import Idealize.ShloMosaic.Lib.Sig
public import Idealize.ShloMosaic.PureOps
public import proofs.«01_k».proof.Proof.Plan

@[expose] public section

noncomputable section

namespace TP

open Idealize.ShloMosaic Idealize.SL.Sem

/-! ## Shapes -/

/-- A shape of one, two or three axes. -/
abbrev D1 (a : Nat) : Shape := ⟨1, ![a]⟩
@[inherit_doc D1] abbrev D2 (a b : Nat) : Shape := ⟨2, ![a, b]⟩
@[inherit_doc D1] abbrev D3 (a b c : Nat) : Shape := ⟨3, ![a, b, c]⟩

/-- A reshape of two axes to two. -/
theorem casts22 {a b c d : Nat} (h : c * d = a * b) : (D2 a b).ShapeCasts (D2 c d) := by
  simpa [Shape.ShapeCasts, Shape.numel, Fin.prod_univ_succ] using h
/-- A reshape of two axes to three. -/
theorem casts23 {a b c d e : Nat} (h : c * (d * e) = a * b) : (D2 a b).ShapeCasts (D3 c d e) := by
  simpa [Shape.ShapeCasts, Shape.numel, Fin.prod_univ_succ] using h
/-- A reshape of three axes to two. -/
theorem casts32 {a b c d e : Nat} (h : d * e = a * (b * c)) : (D3 a b c).ShapeCasts (D2 d e) := by
  simpa [Shape.ShapeCasts, Shape.numel, Fin.prod_univ_succ] using h
/-- A shape of two positive axes is not empty. -/
theorem pos2 {a b : Nat} (ha : 0 < a) (hb : 0 < b) : 0 < (D2 a b).numel := by
  simpa [Shape.numel, Fin.prod_univ_succ] using Nat.mul_pos ha hb
/-- Two axes exchanged. -/
theorem transposes2 (a b : Nat) : (D2 a b).Transposes [1, 0] (D2 b a) := by
  refine ⟨show ([1, 0] : List (Fin 2)).Perm (List.finRange 2) by decide, rfl, fun x => ?_⟩
  fin_cases x <;> rfl
/-- The first two of three axes exchanged. -/
theorem transposes3 (a b c : Nat) : (D3 a b c).Transposes [1, 0, 2] (D3 b a c) := by
  refine ⟨show ([1, 0, 2] : List (Fin 3)).Perm (List.finRange 3) by decide, rfl, fun x => ?_⟩
  fin_cases x <;> rfl
/-- The first factor of a contribution, spread over the columns. -/
theorem broadcastsL (n : Nat) : (D3 16 1 128).Broadcasts (D3 16 n 128) := by
  refine ⟨le_rfl, fun x => ?_⟩
  fin_cases x
  · exact .inr fun _ => rfl
  · exact .inl rfl
  · exact .inr fun _ => rfl
/-- The second factor of a contribution, spread over the copies. -/
theorem broadcastsR (n : Nat) : (D3 1 n 128).Broadcasts (D3 16 n 128) := by
  refine ⟨le_rfl, fun x => ?_⟩
  fin_cases x
  · exact .inl rfl
  · exact .inr fun _ => rfl
  · exact .inr fun _ => rfl
/-- A range of columns lies inside its array. -/
theorem inb2 {o a b c d : Nat} (hr : c ≤ a) (h : o + d ≤ b) :
    ∀ x, (![0, o] : Fin 2 → Nat) x + (D2 c d).size x ≤ (D2 a b).size x := by
  intro x; fin_cases x
  · simpa using hr
  · exact h
/-- A range of rows lies inside its array. -/
theorem inb2' {o a b c d : Nat} (h : o + c ≤ a) (hr : d ≤ b) :
    ∀ x, (![o, 0] : Fin 2 → Nat) x + (D2 c d).size x ≤ (D2 a b).size x := by
  intro x; fin_cases x
  · exact h
  · simpa using hr
/-- A range of rows is a slice. -/
theorem slices2' {o a b c : Nat} (h : o + c ≤ a) : (D2 a b).Slices ![o, 0] (D2 c b) :=
  ⟨rfl, inb2' h le_rfl⟩

/-! ## The values of one segment -/

section
variable {F : FTy → Type} [FloatOps F]

/-- A block of sixteen rows of a transposed input. -/
abbrev R16 (F : FTy → Type) := FVec F (D2 16 128) .f32

/-- One term of a component's sum: row block `j` of the second irrep times a number. -/
abbrev term (env : Nat → R16 F) (e : Nat × Nat) : R16 F :=
  mulf (env e.1) (broadcast (D2 16 128) (Scalar.ofBits .f32 (BitVec.ofNat 32 e.2)))

/-- The sum of the terms of a list, added to what has been summed so far. -/
abbrev colFrom (env : Nat → R16 F) : R16 F → List (Nat × Nat) → R16 F
  | a, [] => a
  | a, e :: es => colFrom env (addf a (term env e)) es

/-- One component of the contraction with the second input: zero where there is no term. -/
abbrev colVal (env : Nat → R16 F) : List (Nat × Nat) → R16 F
  | [] => broadcast (D2 16 128) (Scalar.ofBits .f32 (BitVec.ofNat 32 0))
  | e :: es => colFrom env (term env e) es

/-- The `k`-th list of a row. -/
abbrev nthCol : List (List (Nat × Nat)) → Nat → List (Nat × Nat)
  | [], _ => []
  | c :: _, 0 => c
  | _ :: cs, k + 1 => nthCol cs k

/-- One component as a plane of the stack. -/
abbrev plane (x : R16 F) : FVec F (D3 1 16 128) .f32 := shapeCast (D3 1 16 128) x (casts23 rfl)

/-- The planes of `n` components from the `k`-th on. -/
abbrev planes (f : Nat → R16 F) : Nat → Nat → List ((s : Shape) × (s.Idx → F .f32))
  | 0, _ => []
  | n + 1, k => ⟨D3 1 16 128, plane (f k)⟩ :: planes f n (k + 1)

/-- The shapes of the planes. -/
theorem planes_shapes (f : Nat → R16 F) (n : Nat) : ∀ k, (planes f n k).map Sigma.fst = List.replicate n (D3 1 16 128) := by
  induction n with
  | zero => intro k; rfl
  | succ n ih => intro k; simp [planes, List.replicate_succ, ih]

/-- The planes can be laid end to end. -/
theorem planes_concat (f : Nat → R16 F) (n k : Nat) (hn : 2 ≤ n) :
    Shape.Concatenates ((planes f n k).map Sigma.fst) (D3 n 16 128) 0 := by
  rw [planes_shapes]
  refine ⟨by simpa using hn, fun s hs => ?_, by simp⟩
  obtain rfl := List.eq_of_mem_replicate hs
  refine ⟨rfl, fun b hb => ?_⟩
  fin_cases b
  · exact absurd rfl hb
  · rfl
  · rfl

/-- The components stacked: with one component there is nothing to lay end to end. -/
abbrev stack (f : Nat → R16 F) : (K1 : Nat) → FVec F (D3 (K1 + 1) 16 128) .f32
  | 0 => plane (f 0)
  | n + 1 => concatenate (D3 (n + 1 + 1) 16 128) 0 (planes f (n + 1 + 1) 0) (planes_concat f _ _ (Nat.le_add_left 2 n))

/-- A row's contraction with the second input, laid out as the columns `v * K + k`. -/
abbrev rowW (K1 : Nat) (env : Nat → R16 F) (r : Row) : FVec F (D2 (16 * (K1 + 1)) 128) .f32 :=
  shapeCast (D2 (16 * (K1 + 1)) 128)
    (transpose (D3 16 (K1 + 1) 128) [1, 0, 2] (stack (fun k => colVal env (nthCol r.cols k)) K1) (transposes3 _ _ _))
    (casts32 (Nat.mul_assoc _ _ _))

/-- A row's contribution: the row of the first input times its contraction. -/
abbrev contrib (K1 : Nat) (x : R16 F) (w : FVec F (D2 (16 * (K1 + 1)) 128) .f32) : FVec F (D3 16 (16 * (K1 + 1)) 128) .f32 :=
  mulf
    (broadcastTo (D3 16 (16 * (K1 + 1)) 128) (shapeCast (D3 16 1 128) x (casts23 rfl)) (broadcastsL _))
    (broadcastTo (D3 16 (16 * (K1 + 1)) 128)
      (shapeCast (D3 1 (16 * (K1 + 1)) 128) w (casts23 (Nat.one_mul _))) (broadcastsR _))

/-- The size of a segment, its two ways of being laid out. -/
theorem segCast (K1 : Nat) : 256 * (K1 + 1) * 128 = 16 * (16 * (K1 + 1) * 128) := by
  rw [show (256 : Nat) = 16 * 16 from rfl]; simp only [Nat.mul_assoc]

/-- What a segment stores: the sum of its rows' contributions, turned batch first. -/
abbrev segOut (K1 : Nat) (acc : FVec F (D3 16 (16 * (K1 + 1)) 128) .f32) : FVec F (D2 128 (256 * (K1 + 1))) .f32 :=
  shapeCast (D2 128 (256 * (K1 + 1)))
    (transpose (D2 128 (256 * (K1 + 1))) [1, 0]
      (shapeCast (D2 (256 * (K1 + 1)) 128) acc (casts32 (segCast K1))) (transposes2 _ _))
    (casts22 rfl)

/-- The row blocks with one more known. -/
abbrev upd (env : Nat → R16 F) (j : Nat) (x : R16 F) : Nat → R16 F := fun j' => bif Nat.beq j j' then x else env j'

end

/-! ## The program -/

section
variable {nD : Nat} {τ : Topo} {sig : RefSig} {Λ : Labels} {F : FTy → Type} [FloatOps F]

/-- The programs of a TensorCore. -/
abbrev P (nD : Nat) (τ : Topo) (sig : RefSig) (Λ : Labels) (F : FTy → Type) := Prog (TpuEff nD τ sig (Elt F) Λ .tc) PUnit

/-- The buffers the kernel works over: the two inputs, the output, the two transposed inputs, the two output
    buffers, and the two copies' semaphores. -/
structure Bufs (sig : RefSig) where
  a0 : Memref sig .tc .vmem (D2 128 400) .f32
  a1 : Memref sig .tc .vmem (D2 128 400) .f32
  out : Memref sig .tc .hbm (D2 128 160000) .f32
  x1 : Memref sig .tc .vmem (D2 400 128) .f32
  x2 : Memref sig .tc .vmem (D2 400 128) .f32
  ob0 : Memref sig .tc .vmem (D2 128 8192) .f32
  ob1 : Memref sig .tc .vmem (D2 128 8192) .f32
  sems : DmaSems sig (D1 2)

variable (M : Bufs sig)

/-- The output buffer of an even (`false`) or odd block. -/
abbrev Bufs.ob (M : Bufs sig) (p : Bool) : Memref sig .tc .vmem (D2 128 8192) .f32 :=
  match p with | false => M.ob0 | true => M.ob1

/-- The first semaphore is one of the two. -/
theorem semIn0 : ∀ x, (![0] : Fin 1 → Nat) x + (D1 1).size x ≤ (D1 2).size x := by decide
/-- The second semaphore is one of the two. -/
theorem semIn1 : ∀ x, (![1] : Fin 1 → Nat) x + (D1 1).size x ≤ (D1 2).size x := by decide
/-- One semaphore without its axis. -/
theorem semSqueezes : (D1 1).Squeezes ⟨0, ![]⟩ := by decide

/-- The semaphore of an even or odd block's copy. -/
abbrev Bufs.sem (M : Bufs sig) (p : Bool) : DmaSem sig :=
  match p with
  | false => ((M.sems.slice (Rect.unit (s := D1 2) ![0] (D1 1).size semIn0)).squeeze ⟨0, ![]⟩ semSqueezes).sem
  | true => ((M.sems.slice (Rect.unit (s := D1 2) ![1] (D1 1).size semIn1)).squeeze ⟨0, ![]⟩ semSqueezes).sem

/-- The rectangle of `n` whole rows from row `r` of a transposed input. -/
abbrev rowsR (r n : Nat) (h : r + n ≤ 400) : Rect (D2 400 128) := Rect.unit (s := D2 400 128) ![r, 0] (D2 n 128).size (inb2' h le_rfl)

/-- The rectangle of `w` whole columns from column `c` of an output buffer. -/
abbrev colsR (c w : Nat) (h : c + w ≤ 8192) : Rect (D2 128 8192) := Rect.unit (s := D2 128 8192) ![0, c] (D2 128 w).size (inb2 le_rfl h)

/-- The rectangle of `w` whole columns from column `c` of the output. -/
abbrev outR (c w : Nat) (h : c + w ≤ 160000) : Rect (D2 128 160000) :=
  Rect.unit (s := D2 128 160000) ![0, c] (D2 128 w).size (inb2 le_rfl h)

/-- Row `p` of a transposed input is stored as row `r` of its buffer (after a load nothing reads). -/
abbrev copyRow (X : Memref sig .tc .vmem (D2 400 128) .f32) (v : FVec F (D2 400 128) .f32) (r p : Nat)
    (k : P nD τ sig Λ F) : P nD τ sig Λ F :=
  if h : r + 1 ≤ 400 ∧ p + 1 ≤ 400 then
    .op (.load X (rowsR r 1 h.1).toLoadRect (View.loadsAt_vmem (pos2 (by decide) (by decide)))) fun _ =>
    .op (.store X (rowsR r 1 h.1)
      (shapeCast (D2 1 128) (extractStridedSlice (D2 1 128) ![p, 0] v (slices2' h.2)) (casts22 rfl))
      Finset.univ (View.stores_vmem_bits_univ (pos2 (by decide) (by decide)) rfl) (.inl rfl)) fun _ => k
  else k

/-- The input row that becomes row `r` of the transposed buffers: within an irrep, component `i` of copy `u`, which the
    inputs hold at `u * d + i`, goes to `16 * i + u`. -/
abbrev srcRow (r : Nat) : Nat :=
  bif Nat.blt r 16 then r
  else bif Nat.blt r 64 then 16 + ((r - 16) % 16 * 3 + (r - 16) / 16)
  else bif Nat.blt r 144 then 64 + ((r - 64) % 16 * 5 + (r - 64) / 16)
  else bif Nat.blt r 256 then 144 + ((r - 144) % 16 * 7 + (r - 144) / 16)
  else 256 + ((r - 256) % 16 * 9 + (r - 256) / 16)

/-- The row blocks of the second irrep that a row loads for the first time. -/
abbrev loadNews (o2 : Nat) : List Nat → (Nat → R16 F) → ((Nat → R16 F) → P nD τ sig Λ F) → P nD τ sig Λ F
  | [], env, k => k env
  | j :: js, env, k =>
    if h : o2 + 16 * j + 16 ≤ 400 then
      .op (.load M.x2 (rowsR (o2 + 16 * j) 16 h).toLoadRect (View.loadsAt_vmem (pos2 (by decide) (by decide)))) fun (x : Vec F (D2 16 128) .f32) =>
        loadNews o2 js (upd env j x) k
    else loadNews o2 js env k

/-- One row of a segment: its new row blocks, then row block `i` of the first irrep. -/
abbrev rowProg (o1 o2 K1 i : Nat) (env : Nat → R16 F) (r : Row)
    (k : (Nat → R16 F) → FVec F (D3 16 (16 * (K1 + 1)) 128) .f32 → P nD τ sig Λ F) : P nD τ sig Λ F :=
  loadNews M o2 r.news env fun env' =>
    if h : o1 + 16 * i + 16 ≤ 400 then
      .op (.load M.x1 (rowsR (o1 + 16 * i) 16 h).toLoadRect (View.loadsAt_vmem (pos2 (by decide) (by decide)))) fun (x : Vec F (D2 16 128) .f32) =>
        k env' (contrib K1 x (rowW K1 env' r))
    else k env' (contrib K1 (env' 0) (rowW K1 env' r))

/-- The rows of a segment after its first, added up. -/
abbrev rowsProg (o1 o2 K1 : Nat) : Nat → (Nat → R16 F) → FVec F (D3 16 (16 * (K1 + 1)) 128) .f32 → List Row →
    (FVec F (D3 16 (16 * (K1 + 1)) 128) .f32 → P nD τ sig Λ F) → P nD τ sig Λ F
  | _, _, acc, [], k => k acc
  | i, env, acc, r :: rs, k =>
    rowProg M o1 o2 K1 i env r fun env' c => rowsProg o1 o2 K1 (i + 1) env' (addf acc c) rs k

/-- A segment: its value is stored at column `cur` of an output buffer (after a load nothing reads). -/
abbrev segProg (p : Bool) (cur : Nat) (S : Seg) (k : P nD τ sig Λ F) : P nD τ sig Λ F :=
  rowProg M S.o1 S.o2 S.K1 0 (fun _ => broadcast (D2 16 128) (Scalar.ofBits .f32 0)) S.row0 fun env c =>
  rowsProg M S.o1 S.o2 S.K1 1 env c S.rows fun acc =>
    if h : cur + 256 * (S.K1 + 1) ≤ 8192 then
      .op (.load (M.ob p) (colsR cur (256 * (S.K1 + 1)) h).toLoadRect
        (View.loadsAt_vmem (pos2 (by decide) (Nat.mul_pos (by decide) (Nat.succ_pos _))))) fun _ =>
      .op (.store (M.ob p) (colsR cur (256 * (S.K1 + 1)) h) (segOut S.K1 acc) Finset.univ
        (View.stores_vmem_bits_univ (pos2 (by decide) (Nat.mul_pos (by decide) (Nat.succ_pos _))) rfl) (.inl rfl)) fun _ => k
    else k

/-- The first `w` columns of an output buffer: what a copy carries away. -/
abbrev srcM (p : Bool) (w : Nat) (h : 0 + w ≤ 8192) : Memref sig .tc .vmem (D2 128 w) .f32 :=
  (M.ob p).slice (colsR 0 w h) (fun _ => rfl)

/-- The columns of the output a copy fills. -/
abbrev dstM (off w : Nat) (h : off + w ≤ 160000) : Memref sig .tc .hbm (D2 128 w) .f32 :=
  M.out.slice (outR off w h) (fun _ => rfl)

/-- Start the copy of an output buffer's first `w` columns to the output's columns from `off`. -/
abbrev startProg (p : Bool) (off w : Nat) (k : P nD τ sig Λ F) : P nD τ sig Λ F :=
  if h : 0 + w ≤ 8192 ∧ off + w ≤ 160000 then
    .op (.enqueueDma (srcM M p w h.1) (.here (dstM M off w h.2)) (.dma (M.sem p)) (View.wordExact_bits rfl)
      (View.wordExact_bits rfl) ⟨Or.inl rfl, trivial⟩) fun _ => k
  else k

/-- Wait for that copy. -/
abbrev waitProg (p : Bool) (off w : Nat) (k : P nD τ sig Λ F) : P nD τ sig Λ F :=
  if h : 0 + w ≤ 8192 ∧ off + w ≤ 160000 then
    .op (.waitDma2 (M.sem p) (srcM M p w h.1) (dstM M off w h.2) (View.wordExact_bits rfl) (View.wordExact_bits rfl))
      fun _ => k
  else k

/-- One step of the program. -/
inductive Instr where
  | copy (r : Nat)
  | seg (p : Bool) (cur : Nat) (S : Seg)
  | start (p : Bool) (off w : Nat)
  | wait (p : Bool) (off w : Nat)

/-- What a step does, over the transposed inputs. -/
abbrev runI (v1 v3 : FVec F (D2 400 128) .f32) (I : Instr) (k : P nD τ sig Λ F) : P nD τ sig Λ F :=
  match I with
  | .copy r => copyRow M.x1 v1 r (srcRow r) (copyRow M.x2 v3 r (srcRow r) k)
  | .seg p cur S => segProg M p cur S k
  | .start p off w => startProg M p off w k
  | .wait p off w => waitProg M p off w k

/-- A list of steps. -/
abbrev run (v1 v3 : FVec F (D2 400 128) .f32) : List Instr → P nD τ sig Λ F → P nD τ sig Λ F
  | [], k => k
  | I :: Is, k => runI M v1 v3 I (run v1 v3 Is k)

/-- The first two steps: the inputs are loaded whole and transposed. -/
abbrev withInputs (k : FVec F (D2 400 128) .f32 → FVec F (D2 400 128) .f32 → P nD τ sig Λ F) : P nD τ sig Λ F :=
  .op (.load M.a0 (Rect.unit (s := D2 128 400) ![0, 0] (D2 128 400).size (inb2 le_rfl le_rfl)).toLoadRect
    (View.loadsAt_vmem (pos2 (by decide) (by decide)))) fun v0 =>
  .op (.load M.a1 (Rect.unit (s := D2 128 400) ![0, 0] (D2 128 400).size (inb2 le_rfl le_rfl)).toLoadRect
    (View.loadsAt_vmem (pos2 (by decide) (by decide)))) fun v2 =>
  k (transpose (D2 400 128) [1, 0] v0 (transposes2 _ _)) (transpose (D2 400 128) [1, 0] v2 (transposes2 _ _))

end

/-! ## The list of steps -/

/-- The rows copied: `n` of them from row `r` on. -/
abbrev copies : Nat → Nat → List Instr
  | 0, _ => []
  | n + 1, r => .copy r :: copies n (r + 1)

/-- The segments of a block, side by side from column `cur`. -/
abbrev segs (p : Bool) : Nat → List Seg → List Instr
  | _, [] => []
  | cur, S :: Ss => .seg p cur S :: segs p (cur + 256 * (S.K1 + 1)) Ss

/-- The width of a block. -/
abbrev width : List Seg → Nat
  | [] => 0
  | S :: Ss => 256 * (S.K1 + 1) + width Ss

/-- The blocks after the first: each is computed in the buffer the last but one left free, its copy started, and the
    copy before it waited for; after the last block its own copy is waited for first. -/
abbrev blockSteps (p : Bool) (poff pw : Nat) : List (List Seg) → List Instr
  | [] => [.wait (!p) poff pw]
  | [B] => segs p 0 B ++ [.start p (poff + pw) (width B), .wait p (poff + pw) (width B), .wait (!p) poff pw]
  | B :: Bs => segs p 0 B ++ (.start p (poff + pw) (width B) :: .wait (!p) poff pw ::
      blockSteps (!p) (poff + pw) (width B) Bs)

/-- All the blocks. -/
abbrev allBlocks : List (List Seg) → List Instr
  | [] => []
  | B :: Bs => segs false 0 B ++ (.start false 0 (width B) :: blockSteps true 0 (width B) Bs)

/-- The whole kernel after its inputs are loaded. -/
abbrev steps : List Instr := copies 400 0 ++ allBlocks blocks

end TP
-- ==== Proof.Values.lean ====
/-
  What the program computes, as functions of the two transposed inputs: the value of a segment, and the output as the
  segments' values laid side by side. Beside them, the checks of the table that the program's run asks for.
-/
module

public import proofs.«01_k».proof.Proof.Program

@[expose] public section

noncomputable section

namespace TP

open Idealize.ShloMosaic Idealize.SL.Sem

/-! ## Indices -/

/-- An index of two axes from its coordinates. -/
def ix2 {a b : Nat} (x : Fin a) (y : Fin b) : (D2 a b).Idx := Fin.cons x (Fin.cons y fun t => t.elim0)

@[simp] theorem ix2_0 {a b : Nat} (x : Fin a) (y : Fin b) : ix2 x y 0 = x := rfl
@[simp] theorem ix2_1 {a b : Nat} (x : Fin a) (y : Fin b) : ix2 x y 1 = y := rfl

/-- Two indices with the same coordinates are the same. -/
theorem ext2 {a b : Nat} {i j : (D2 a b).Idx} (h0 : (i 0).val = (j 0).val) (h1 : (i 1).val = (j 1).val) : i = j := by
  funext t
  apply Fin.ext
  match t with
  | ⟨0, _⟩ => exact h0
  | ⟨1, _⟩ => exact h1

/-- An index of three axes from its coordinates. -/
def ix3 {a b c : Nat} (x : Fin a) (y : Fin b) (z : Fin c) : (D3 a b c).Idx :=
  Fin.cons x (Fin.cons y (Fin.cons z fun t => t.elim0))

@[simp] theorem ix3_0 {a b c : Nat} (x : Fin a) (y : Fin b) (z : Fin c) : ix3 x y z 0 = x := rfl
@[simp] theorem ix3_1 {a b c : Nat} (x : Fin a) (y : Fin b) (z : Fin c) : ix3 x y z 1 = y := rfl
@[simp] theorem ix3_2 {a b c : Nat} (x : Fin a) (y : Fin b) (z : Fin c) : ix3 x y z 2 = z := rfl

/-- Two indices of three axes with the same coordinates are the same. -/
theorem ext3 {a b c : Nat} {i j : (D3 a b c).Idx} (h0 : (i 0).val = (j 0).val) (h1 : (i 1).val = (j 1).val)
    (h2 : (i 2).val = (j 2).val) : i = j := by
  funext t
  apply Fin.ext
  match t with
  | ⟨0, _⟩ => exact h0
  | ⟨1, _⟩ => exact h1
  | ⟨2, _⟩ => exact h2

section
variable {F : FTy → Type} [FloatOps F]

/-! ## Values -/

/-- The rows of a transposed input as its buffer holds them. -/
def permuted (v : FVec F (D2 400 128) .f32) : FVec F (D2 400 128) .f32 :=
  fun i => v (ix2 ⟨srcRow (i 0).val % 400, Nat.mod_lt _ (by decide)⟩ (i 1))

/-- Sixteen rows of a buffer from row `r` on. -/
def rows16 (X : FVec F (D2 400 128) .f32) (r : Nat) : R16 F :=
  fun i => X (ix2 ⟨(r + (i 0).val) % 400, Nat.mod_lt _ (by decide)⟩ (i 1))

/-- The row blocks of the second irrep. -/
def envOf (X2 : FVec F (D2 400 128) .f32) (o2 : Nat) : Nat → R16 F := fun j => rows16 X2 (o2 + 16 * j)

/-- A row's contribution to its segment. -/
def rowVal (X1 X2 : FVec F (D2 400 128) .f32) (o1 o2 K1 i : Nat) (r : Row) : FVec F (D3 16 (16 * (K1 + 1)) 128) .f32 :=
  contrib K1 (rows16 X1 (o1 + 16 * i)) (rowW K1 (envOf X2 o2) r)

/-- The contributions of the rows from the `i`-th on, added to what has been added so far. -/
def accFrom (X1 X2 : FVec F (D2 400 128) .f32) (o1 o2 K1 : Nat) : Nat → FVec F (D3 16 (16 * (K1 + 1)) 128) .f32 → List Row →
    FVec F (D3 16 (16 * (K1 + 1)) 128) .f32
  | _, acc, [] => acc
  | i, acc, r :: rs => accFrom X1 X2 o1 o2 K1 (i + 1) (addf acc (rowVal X1 X2 o1 o2 K1 i r)) rs

/-- The value of a segment. -/
def segVal (X1 X2 : FVec F (D2 400 128) .f32) (S : Seg) : FVec F (D2 128 (256 * (S.K1 + 1))) .f32 :=
  segOut S.K1 (accFrom X1 X2 S.o1 S.o2 S.K1 1 (rowVal X1 X2 S.o1 S.o2 S.K1 0 S.row0) S.rows)

/-- Column `x` of batch row `b` of the segments laid side by side. -/
def outVal (X1 X2 : FVec F (D2 400 128) .f32) : List Seg → Fin 128 → Nat → F .f32
  | [], _, _ => Scalar.ofBits .f32 0
  | S :: Ss, b, x => if h : x < 256 * (S.K1 + 1) then segVal X1 X2 S (ix2 b ⟨x, h⟩)
    else outVal X1 X2 Ss b (x - 256 * (S.K1 + 1))

/-- A function of batch row and column agrees with the segments placed from column `off` on. -/
def Fits (X1 X2 : FVec F (D2 400 128) .f32) (T : Fin 128 → Nat → F .f32) : Nat → List Seg → Prop
  | _, [] => True
  | off, S :: Ss => (∀ b x (h : x < 256 * (S.K1 + 1)), T b (off + x) = segVal X1 X2 S (ix2 b ⟨x, h⟩)) ∧
      Fits X1 X2 T (off + 256 * (S.K1 + 1)) Ss

/-- Segments that fit a function fit it moved along. -/
theorem fits_shift (X1 X2 : FVec F (D2 400 128) .f32) (T T' : Fin 128 → Nat → F .f32) (d : Nat) (Ss : List Seg) :
    ∀ off, (∀ b x, off ≤ x → T b (d + x) = T' b x) → Fits X1 X2 T' off Ss → Fits X1 X2 T (d + off) Ss := by
  induction Ss with
  | nil => intro _ _ _; trivial
  | cons S Ss ih =>
    intro off h hf
    refine ⟨fun b x hx => ?_, ?_⟩
    · rw [Nat.add_assoc, h b _ (Nat.le_add_right _ _)]; exact hf.1 b x hx
    · rw [Nat.add_assoc]
      exact ih _ (fun b x hx => h b x (by omega)) hf.2

/-- The output agrees with its segments. -/
theorem fits_outVal (X1 X2 : FVec F (D2 400 128) .f32) (Ss : List Seg) : Fits X1 X2 (outVal X1 X2 Ss) 0 Ss := by
  induction Ss with
  | nil => trivial
  | cons S Ss ih =>
    refine ⟨fun b x hx => ?_, ?_⟩
    · rw [Nat.zero_add]; simp only [outVal, dif_pos hx]
    · refine Eq.mp (by rw [Nat.zero_add, Nat.add_zero])
        (fits_shift X1 X2 (outVal X1 X2 (S :: Ss)) _ (256 * (S.K1 + 1)) Ss 0 (fun b x _ => ?_) ih)
      simp only [outVal]
      rw [dif_neg (by omega), Nat.add_sub_cancel_left]

/-- Segments that fit, in two parts. -/
theorem fits_append (X1 X2 : FVec F (D2 400 128) .f32) (T : Fin 128 → Nat → F .f32) (B Ss : List Seg) :
    ∀ off, Fits X1 X2 T off (B ++ Ss) → Fits X1 X2 T off B ∧ Fits X1 X2 T (off + width B) Ss := by
  induction B with
  | nil => intro off h; exact ⟨trivial, h⟩
  | cons S B ih =>
    intro off h
    have := ih _ h.2
    refine ⟨⟨h.1, this.1⟩, ?_⟩
    simp only [width, ← Nat.add_assoc]; exact this.2

/-! ## The row blocks the program has loaded -/

/-- The row blocks after a row's loads. -/
def newsEnv (X2 : FVec F (D2 400 128) .f32) (o2 : Nat) : List Nat → (Nat → R16 F) → Nat → R16 F
  | [], env => env
  | j :: js, env => newsEnv X2 o2 js (upd env j (rows16 X2 (o2 + 16 * j)))

/-- What is loaded is right. -/
def Loaded (X2 : FVec F (D2 400 128) .f32) (o2 : Nat) (js : List Nat) (env : Nat → R16 F) : Prop :=
  ∀ j ∈ js, env j = envOf X2 o2 j

/-- What is loaded next is right too. -/
theorem loaded_news (X2 : FVec F (D2 400 128) .f32) (o2 : Nat) (js : List Nat) :
    ∀ (ls : List Nat) (env : Nat → R16 F), Loaded X2 o2 ls env → Loaded X2 o2 (js ++ ls) (newsEnv X2 o2 js env) := by
  induction js with
  | nil => intro ls env h; exact h
  | cons j js ih =>
    intro ls env h
    have h' : Loaded X2 o2 (j :: ls) (upd env j (rows16 X2 (o2 + 16 * j))) := by
      intro j' hj'
      by_cases hjj : j = j'
      · subst hjj; simp [upd, envOf]
      · have : j' ∈ ls := by
          rcases List.mem_cons.1 hj' with rfl | h1
          · exact absurd rfl hjj
          · exact h1
        have hb : Nat.beq j j' = false := by
          cases hb : Nat.beq j j' with
          | false => rfl
          | true => exact absurd (Nat.eq_of_beq_eq_true hb) hjj
        simp only [upd, hb, cond_false]
        exact h j' this
    intro j' hj'
    refine ih (j :: ls) _ h' j' ?_
    simp only [List.cons_append, List.mem_cons, List.mem_append] at hj' ⊢
    tauto

/-- The indices a list of numbers uses are among `ls`. -/
def colOk (ls : List Nat) (c : List (Nat × Nat)) : Bool := c.all fun e => ls.contains e.1

/-- A running sum reads only the row blocks that its terms name. -/
theorem colFrom_congr {env env' : Nat → R16 F} {ls : List Nat} (h : ∀ j ∈ ls, env j = env' j) (c : List (Nat × Nat)) :
    ∀ a, colOk ls c = true → colFrom env a c = colFrom env' a c := by
  induction c with
  | nil => intro a _; rfl
  | cons e c ih =>
    intro a hc
    simp only [colOk, List.all_cons, Bool.and_eq_true, List.contains_iff_mem] at hc
    simp only [colFrom, term, h _ hc.1]
    exact ih _ hc.2

/-- A component reads only the row blocks that its terms name. -/
theorem colVal_congr {env env' : Nat → R16 F} {ls : List Nat} (h : ∀ j ∈ ls, env j = env' j) (c : List (Nat × Nat))
    (hc : colOk ls c = true) : colVal env c = colVal env' c := by
  cases c with
  | nil => rfl
  | cons e c =>
    simp only [colOk, List.all_cons, Bool.and_eq_true, List.contains_iff_mem] at hc
    simp only [colVal, term, h _ hc.1]
    exact colFrom_congr h c _ hc.2

/-- Each component of a row uses only what is loaded. -/
theorem nthCol_ok {ls : List Nat} (cs : List (List (Nat × Nat))) (h : cs.all (colOk ls) = true) :
    ∀ k, colOk ls (nthCol cs k) = true := by
  induction cs with
  | nil => intro k; rfl
  | cons c cs ih =>
    simp only [List.all_cons, Bool.and_eq_true] at h
    intro k
    cases k with
    | zero => exact h.1
    | succ k => exact ih h.2 k

/-- A row's contraction reads only what is loaded. -/
theorem rowW_congr {env env' : Nat → R16 F} {ls : List Nat} (h : ∀ j ∈ ls, env j = env' j) (K1 : Nat) (r : Row)
    (hr : r.cols.all (colOk ls) = true) : rowW K1 env r = rowW K1 env' r := by
  have : (fun k => colVal env (nthCol r.cols k)) = fun k => colVal env' (nthCol r.cols k) :=
    funext fun k => colVal_congr h _ (nthCol_ok _ hr k)
  simp only [rowW, this]

/-! ## Checks of the table -/

/-- A row's loads lie inside the buffers and its numbers use only what is loaded. -/
def rowOk (ls : List Nat) (o1 o2 i : Nat) (r : Row) : Bool :=
  r.news.all (fun j => Nat.ble (o2 + 16 * j + 16) 400) && Nat.ble (o1 + 16 * i + 16) 400 && r.cols.all (colOk (r.news ++ ls))

/-- The same of some rows, one after the other. -/
def rowsOk (o1 o2 : Nat) : List Nat → Nat → List Row → Bool
  | _, _, [] => true
  | ls, i, r :: rs => rowOk ls o1 o2 i r && rowsOk o1 o2 (r.news ++ ls) (i + 1) rs

/-- A segment's rows are in order. -/
def segOk (S : Seg) : Bool := rowsOk S.o1 S.o2 [] 0 (S.row0 :: S.rows)

/-- A block's segments are in order, and it is neither empty nor wider than its buffer. -/
def blockOk (B : List Seg) : Bool := B.all segOk && Nat.ble (width B) 8192 && Nat.ble 1 (width B)

/-- The width of some blocks. -/
def widths : List (List Seg) → Nat
  | [] => 0
  | B :: Bs => width B + widths Bs

/-- Every block of the table passes. -/
theorem blocks_ok : blocks.all blockOk = true := by decide +kernel
/-- The blocks fill the output. -/
theorem widths_blocks : widths blocks = 160000 := by decide +kernel

end

end TP
-- ==== Proof.Run.lean ====
/-
  The program of `Program` run: from its buffers, its two semaphores and the right to wait, it ends with the output
  holding the segments' values of `Values`. One lemma for each kind of step, then inductions over the rows of a segment,
  the segments of a block and the blocks.
-/
module

public import proofs.«01_k».proof.Proof.Values
public import Idealize.ShloMosaic.Lib.Pipeline.FrameBody
public import Idealize.ShloMosaic.Lib.Pipeline.Value
public import Idealize.ShloMosaic.Lib.Tactic
public import Idealize.ShloMosaic.Lib.Transfers

@[expose] public section

noncomputable section

namespace TP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Λ : Labels} {F : FTy → Type} [FloatOps F]

/-- The resources of a launch's core. -/
abbrev Res (nD : Nat) (τ : Topo) (sig : RefSig) (F : FTy → Type) : Type :=
  MT nD τ sig Unit (Elt F) ℕ (Pipeline.UD sig nD τ) ℕ

/-- Assertions about them. -/
abbrev HP (nD : Nat) (τ : Topo) (sig : RefSig) (F : FTy → Type) := sProp (Res nD τ sig F)

variable (defs : Defs nD τ sig (Elt F) Λ) (c : Dev nD) (Q : PUnit.{1} → HP nD τ sig F)

/-- What is left to show of a program run on core `c`. -/
abbrev W (p : P nD τ sig Λ F) : HP nD τ sig F :=
  wp frame (wpE defs Variants.none (c : Thread nD τ) none) Set.univ p Q

/-- The contents of a memref's buffer on core `c`. -/
abbrev Cont (τ : Topo) (F : FTy → Type) (c : Dev nD) {sp : Space} {s : Shape} {e : EltTy} (m : Memref sig .tc sp s e) : Type :=
  Buf (Elt F) (m.view.loc (c : Thread nD τ))

/-- A memref's elements held whole. -/
abbrev pt {sp : Space} {s : Shape} {e : EltTy} (m : Memref sig .tc sp s e) (f : Cont τ F c m) : HP nD τ sig F :=
  m.view.loc (c : Thread nD τ) ↦[m.view.set]{fullShare} f

/-- A load from a buffer that can be borrowed. -/
theorem load_step {Pr : HP nD τ sig F} {s : Shape} {e : EltTy} {m : Memref sig .tc .vmem s e} {r : Rect s}
    {hl : m.view.LoadsAt r.toLoadRect} {k : (r.toLoadRect.shape.Idx → Elt F e) → P nD τ sig Λ F} {f : Cont τ F c m}
    (hb : Pr ⊢ iprop(pt c m f ∗ (pt c m f -∗ Pr)))
    (h : Pr ⊢ W defs c Q (k (m.view.readAt (Elt F) r.toLoadRect f))) :
    Pr ⊢ W defs c Q (.op (.load m r.toLoadRect hl) k) := by
  refine hb.trans ?_
  iintro ⟨HA, HB⟩
  iapply (wp_load Variants.none (c : Thread nD τ) none Set.univ (View.setOn_subset_set _ _)) $$ HA
  iintro HA
  iapply h
  iapply HB $$ HA

/-- A store to a buffer held whole. -/
theorem store_step {R : HP nD τ sig F} {s : Shape} {e : EltTy} {m : Memref sig .tc .vmem s e} {r : Rect s}
    {w : r.shape.Idx → Elt F e} {hx : (m.access r).Stores Finset.univ}
    {hm : (Finset.univ : Finset r.shape.Idx) = Finset.univ ∨ ∀ a, r.stride a = 1}
    {k : PUnit → P nD τ sig Λ F} {f : Cont τ F c m}
    (h : iprop(pt c m ((m.access r).write (Elt F) f w Finset.univ) ∗ R) ⊢ W defs c Q (k ⟨⟩)) :
    iprop(pt c m f ∗ R) ⊢ W defs c Q (.op (.store m r w Finset.univ hx hm) k) := by
  iintro ⟨HA, HR⟩
  iapply (wp_store Variants.none (c : Thread nD τ) none Set.univ (m := m) (r := r) (w := w) (hx := hx) (hm := hm)
    (S := m.view.set) (View.set_slice_subset _ _)) $$ HA
  iintro HA
  iapply h
  isplitl [HA]; · iexact HA
  iexact HR

/-- The first of several is borrowed. -/
theorem borrow_here (A R : HP nD τ sig F) : iprop(A ∗ R) ⊢ iprop(A ∗ (A -∗ (A ∗ R))) := by
  iintro ⟨HA, HR⟩
  isplitl [HA]; · iexact HA
  iintro HA
  isplitl [HA]; · iexact HA
  iexact HR

/-- What is borrowed of the rest is borrowed of the whole. -/
theorem borrow_there {A B R : HP nD τ sig F} (h : R ⊢ iprop(A ∗ (A -∗ R))) : iprop(B ∗ R) ⊢ iprop(A ∗ (A -∗ (B ∗ R))) := by
  iintro ⟨HB, HR⟩
  ihave H := h $$ HR
  icases H with ⟨HA, HR⟩
  isplitl [HA]; · iexact HA
  iintro HA
  isplitl [HB]; · iexact HB
  iapply HR $$ HA

/-! ## What a buffer holds after a store to a rectangle -/

/-- A view read at a place of a rectangle that has been written. -/
theorem read_in {sp : Space} {s : Shape} {e : EltTy} (m : Memref sig .tc sp s e) (r : Rect s) (f : Cont τ F c m)
    (w : r.shape.Idx → Elt F e) (x : r.shape.Idx) :
    m.view.read (Elt F) ((m.access r).write (Elt F) f w Finset.univ) (r.emb x) = w x :=
  View.read_slice_write_emb r f w (Finset.mem_univ x)

/-- A view read off a rectangle that has been written. -/
theorem read_off {sp : Space} {s : Shape} {e : EltTy} (m : Memref sig .tc sp s e) (r : Rect s) (f : Cont τ F c m)
    (w : r.shape.Idx → Elt F e) (y : s.Idx) (h : y ∉ r.set) :
    m.view.read (Elt F) ((m.access r).write (Elt F) f w Finset.univ) y = m.view.read (Elt F) f y :=
  View.read_slice_write_of_not_mem r f w Finset.univ (by rwa [Rect.map_emb_univ])

/-! ## The rectangles -/

section
variable {r n cc w : Nat}

/-- A range of rows: the row of an index. -/
theorem rowsR_emb0 (h : r + n ≤ 400) (x : (D2 n 128).Idx) : ((rowsR r n h).emb x 0).val = r + (x 0).val := by
  show r + 1 * (x 0).val = _; rw [Nat.one_mul]
/-- A range of rows: the column of an index. -/
theorem rowsR_emb1 (h : r + n ≤ 400) (x : (D2 n 128).Idx) : ((rowsR r n h).emb x 1).val = (x 1).val := by
  show 0 + 1 * (x 1).val = _; rw [Nat.one_mul, Nat.zero_add]
/-- A range of columns of a buffer: the row of an index. -/
theorem colsR_emb0 (h : cc + w ≤ 8192) (x : (D2 128 w).Idx) : ((colsR cc w h).emb x 0).val = (x 0).val := by
  show 0 + 1 * (x 0).val = _; rw [Nat.one_mul, Nat.zero_add]
/-- A range of columns of a buffer: the column of an index. -/
theorem colsR_emb1 (h : cc + w ≤ 8192) (x : (D2 128 w).Idx) : ((colsR cc w h).emb x 1).val = cc + (x 1).val := by
  show cc + 1 * (x 1).val = _; rw [Nat.one_mul]
/-- A range of columns of the output: the row of an index. -/
theorem outR_emb0 (h : cc + w ≤ 160000) (x : (D2 128 w).Idx) : ((outR cc w h).emb x 0).val = (x 0).val := by
  show 0 + 1 * (x 0).val = _; rw [Nat.one_mul, Nat.zero_add]
/-- A range of columns of the output: the column of an index. -/
theorem outR_emb1 (h : cc + w ≤ 160000) (x : (D2 128 w).Idx) : ((outR cc w h).emb x 1).val = cc + (x 1).val := by
  show cc + 1 * (x 1).val = _; rw [Nat.one_mul]

/-- A row outside a range. -/
theorem not_mem_rowsR (h : r + n ≤ 400) (i : (D2 400 128).Idx) (hi : (i 0).val < r ∨ r + n ≤ (i 0).val) :
    i ∉ (rowsR r n h).set := by
  rw [Rect.mem_set_unit]
  intro hm
  have h0 : r ≤ (i 0).val ∧ (i 0).val < r + n := hm 0
  omega
/-- A column before a range. -/
theorem not_mem_colsR (h : cc + w ≤ 8192) (i : (D2 128 8192).Idx) (hi : (i 1).val < cc) : i ∉ (colsR cc w h).set := by
  rw [Rect.mem_set_unit]
  intro hm
  have h0 : cc ≤ (i 1).val ∧ (i 1).val < cc + w := hm 1
  omega
/-- An index of the output is in a range of columns when its column is. -/
theorem mem_outR (h : cc + w ≤ 160000) (i : (D2 128 160000).Idx) :
    i ∈ (outR cc w h).set ↔ cc ≤ (i 1).val ∧ (i 1).val < cc + w := by
  rw [Rect.mem_set_unit]
  refine ⟨fun hm => hm 1, fun hm a => ?_⟩
  fin_cases a
  · exact ⟨Nat.zero_le _, by simpa using (i 0).isLt⟩
  · exact hm
end

/-! ## The copies of the inputs' rows -/

section
variable (M : Bufs sig)

/-- Row `p` of an input is stored as row `r`. -/
theorem copyRow_run {R : HP nD τ sig F} {X : Memref sig .tc .vmem (D2 400 128) .f32} {v : FVec F (D2 400 128) .f32}
    {r p : Nat} (hr : r + 1 ≤ 400) (hp : p + 1 ≤ 400) {k : P nD τ sig Λ F} {f : Cont τ F c X}
    (hk : ∀ f' : Cont τ F c X, (∀ i, (i 0).val = r → X.view.read (Elt F) f' i = v (ix2 ⟨p, hp⟩ (i 1))) →
      (∀ i, (i 0).val ≠ r → X.view.read (Elt F) f' i = X.view.read (Elt F) f i) →
      iprop(pt c X f' ∗ R) ⊢ W defs c Q k) :
    iprop(pt c X f ∗ R) ⊢ W defs c Q (copyRow X v r p k) := by
  unfold copyRow
  rw [dif_pos ⟨hr, hp⟩]
  refine load_step defs c Q (borrow_here _ _) ?_
  refine store_step defs c Q (hk _ (fun i hi => ?_) fun i hi => ?_)
  · have he : i = (rowsR r 1 hr).emb (ix2 (a := 1) (b := 128) 0 (i 1)) := ext2
      (hi.trans (rowsR_emb0 hr (ix2 (a := 1) (b := 128) 0 (i 1))).symm) (rowsR_emb1 hr (ix2 (a := 1) (b := 128) 0 (i 1))).symm
    conv_lhs => rw [he]
    rw [read_in, shapeCast_self]
    exact congrArg v (ext2 (Nat.add_zero _) (Nat.zero_add _))
  · exact read_off c X _ _ _ _ (not_mem_rowsR hr i (by omega))

/-- The rows are moved among themselves. -/
theorem srcRow_lt : ∀ r : Fin 400, srcRow r.val < 400 := by decide +kernel

/-- The rows copied so far are those of the permuted input. -/
theorem copies_run {R : HP nD τ sig F} {v1 v3 : FVec F (D2 400 128) .f32} {k : P nD τ sig Λ F}
    (hk : ∀ (f1 : Cont τ F c M.x1) (f2 : Cont τ F c M.x2), M.x1.view.read (Elt F) f1 = permuted v1 →
      M.x2.view.read (Elt F) f2 = permuted v3 → iprop(pt c M.x1 f1 ∗ pt c M.x2 f2 ∗ R) ⊢ W defs c Q k) (n : Nat) :
    ∀ r, r + n = 400 → ∀ (f1 : Cont τ F c M.x1) (f2 : Cont τ F c M.x2),
      (∀ i, (i 0).val < r → M.x1.view.read (Elt F) f1 i = permuted v1 i) →
      (∀ i, (i 0).val < r → M.x2.view.read (Elt F) f2 i = permuted v3 i) →
      iprop(pt c M.x1 f1 ∗ pt c M.x2 f2 ∗ R) ⊢ W defs c Q (run M v1 v3 (copies n r) k) := by
  induction n with
  | zero =>
    intro r hr f1 f2 h1 h2
    refine hk f1 f2 (funext fun i => h1 i ?_) (funext fun i => h2 i ?_)
    · have : (i 0).val < 400 := (i 0).isLt
      omega
    · have : (i 0).val < 400 := (i 0).isLt
      omega
  | succ n ih =>
    intro r hr f1 f2 h1 h2
    have hr' : r < 400 := by omega
    have hp : srcRow r + 1 ≤ 400 := srcRow_lt ⟨r, hr'⟩
    have key : ∀ (v : FVec F (D2 400 128) .f32) (i : (D2 400 128).Idx), (i 0).val = r →
        v (ix2 ⟨srcRow r, hp⟩ (i 1)) = permuted v i := by
      intro v i hi
      refine congrArg v (ext2 ?_ rfl)
      show srcRow r = srcRow (i 0).val % 400
      rw [hi, Nat.mod_eq_of_lt hp]
    refine copyRow_run defs c Q hr' hp fun f1' ha hb => ?_
    refine sep_left_comm.1.trans ?_
    refine copyRow_run defs c Q hr' hp fun f2' ha' hb' => ?_
    refine sep_left_comm.1.trans ?_
    refine ih (r + 1) (by omega) f1' f2' (fun i hi => ?_) fun i hi => ?_
    · by_cases he : (i 0).val = r
      · rw [ha i he]; exact key v1 i he
      · rw [hb i he]; exact h1 i (by omega)
    · by_cases he : (i 0).val = r
      · rw [ha' i he]; exact key v3 i he
      · rw [hb' i he]; exact h2 i (by omega)

/-! ## A segment -/

variable {St : HP nD τ sig F} {f1 : Cont τ F c M.x1} {f2 : Cont τ F c M.x2} {X1 X2 : FVec F (D2 400 128) .f32}

/-- Sixteen rows read. -/
theorem read_rows {X : Memref sig .tc .vmem (D2 400 128) .f32} {f : Cont τ F c X} {x : FVec F (D2 400 128) .f32}
    (hf : X.view.read (Elt F) f = x) (r : Nat) (h : r + 16 ≤ 400) :
    X.view.readAt (Elt F) (rowsR r 16 h).toLoadRect f = rows16 x r := by
  funext i
  subst hf
  refine congrArg (X.view.read (Elt F) f) (ext2 ?_ (rowsR_emb1 h i))
  have hi : (i 0).val < 16 := (i 0).isLt
  exact (rowsR_emb0 h i).trans (Nat.mod_eq_of_lt (by omega)).symm

/-- The loads of row blocks run, and know what they load. -/
theorem loadNews_run (h2 : M.x2.view.read (Elt F) f2 = X2) (hb2 : St ⊢ iprop(pt c M.x2 f2 ∗ (pt c M.x2 f2 -∗ St)))
    (o2 : Nat) {k : (Nat → R16 F) → P nD τ sig Λ F} (js : List Nat) :
    ∀ env, js.all (fun j => Nat.ble (o2 + 16 * j + 16) 400) = true → (St ⊢ W defs c Q (k (newsEnv X2 o2 js env))) →
      St ⊢ W defs c Q (loadNews M o2 js env k) := by
  induction js with
  | nil => intro env _ hk; exact hk
  | cons j js ih =>
    intro env hj hk
    rw [List.all_cons, Bool.and_eq_true] at hj
    unfold loadNews
    rw [dif_pos (Nat.le_of_ble_eq_true hj.1)]
    refine load_step defs c Q hb2 ?_
    rw [read_rows c h2]
    exact ih _ hj.2 hk

/-- The loads of a row run. -/
theorem rowProg_run (h1 : M.x1.view.read (Elt F) f1 = X1) (hb1 : St ⊢ iprop(pt c M.x1 f1 ∗ (pt c M.x1 f1 -∗ St)))
    (h2 : M.x2.view.read (Elt F) f2 = X2) (hb2 : St ⊢ iprop(pt c M.x2 f2 ∗ (pt c M.x2 f2 -∗ St)))
    {o1 o2 K1 i : Nat} {ls : List Nat} {env : Nat → R16 F} {r : Row} (hr : rowOk ls o1 o2 i r = true)
    (hl : Loaded X2 o2 ls env) {k : (Nat → R16 F) → FVec F (D3 16 (16 * (K1 + 1)) 128) .f32 → P nD τ sig Λ F}
    (hk : ∀ env', Loaded X2 o2 (r.news ++ ls) env' → (St ⊢ W defs c Q (k env' (rowVal X1 X2 o1 o2 K1 i r)))) :
    St ⊢ W defs c Q (rowProg M o1 o2 K1 i env r k) := by
  simp only [rowOk, Bool.and_eq_true] at hr
  refine loadNews_run defs c Q M h2 hb2 o2 _ _ hr.1.1 ?_
  rw [dif_pos (Nat.le_of_ble_eq_true hr.1.2)]
  refine load_step defs c Q hb1 ?_
  have hl' := loaded_news X2 o2 r.news ls env hl
  rw [read_rows c h1, rowW_congr hl' K1 r hr.2]
  exact hk _ hl'

/-- The loads of some rows run, and the sum of their contributions is known. -/
theorem rowsProg_run (h1 : M.x1.view.read (Elt F) f1 = X1) (hb1 : St ⊢ iprop(pt c M.x1 f1 ∗ (pt c M.x1 f1 -∗ St)))
    (h2 : M.x2.view.read (Elt F) f2 = X2) (hb2 : St ⊢ iprop(pt c M.x2 f2 ∗ (pt c M.x2 f2 -∗ St)))
    {o1 o2 K1 : Nat} {k : FVec F (D3 16 (16 * (K1 + 1)) 128) .f32 → P nD τ sig Λ F} (rs : List Row) :
    ∀ (i : Nat) (ls : List Nat) (env : Nat → R16 F) (acc : FVec F (D3 16 (16 * (K1 + 1)) 128) .f32),
      rowsOk o1 o2 ls i rs = true → Loaded X2 o2 ls env →
      (St ⊢ W defs c Q (k (accFrom X1 X2 o1 o2 K1 i acc rs))) → St ⊢ W defs c Q (rowsProg M o1 o2 K1 i env acc rs k) := by
  induction rs with
  | nil => intro i ls env acc _ _ hk; exact hk
  | cons r rs ih =>
    intro i ls env acc hr hl hk
    rw [rowsOk, Bool.and_eq_true] at hr
    refine rowProg_run defs c Q M h1 hb1 h2 hb2 hr.1 hl fun env' hl' => ?_
    exact ih (i + 1) _ env' _ hr.2 hl' hk

/-- A segment computed and stored: its columns hold its value, those before it are as they were. -/
theorem segProg_run {R : HP nD τ sig F} (h1 : M.x1.view.read (Elt F) f1 = X1)
    (hb1 : R ⊢ iprop(pt c M.x1 f1 ∗ (pt c M.x1 f1 -∗ R)))
    (h2 : M.x2.view.read (Elt F) f2 = X2) (hb2 : R ⊢ iprop(pt c M.x2 f2 ∗ (pt c M.x2 f2 -∗ R)))
    {p : Bool} {cur : Nat} {S : Seg} (hS : segOk S = true) (hw : cur + 256 * (S.K1 + 1) ≤ 8192)
    {k : P nD τ sig Λ F} {g : Cont τ F c (M.ob p)}
    (hk : ∀ g' : Cont τ F c (M.ob p),
      (∀ b (x : Fin 8192) (h : x.val - cur < 256 * (S.K1 + 1)), cur ≤ x.val →
        (M.ob p).view.read (Elt F) g' (ix2 b x) = segVal X1 X2 S (ix2 b ⟨x.val - cur, h⟩)) →
      (∀ b (x : Fin 8192), x.val < cur → (M.ob p).view.read (Elt F) g' (ix2 b x) = (M.ob p).view.read (Elt F) g (ix2 b x)) →
      iprop(pt c (M.ob p) g' ∗ R) ⊢ W defs c Q k) :
    iprop(pt c (M.ob p) g ∗ R) ⊢ W defs c Q (segProg M p cur S k) := by
  rw [segOk, rowsOk, Bool.and_eq_true] at hS
  refine rowProg_run defs c Q M h1 (borrow_there hb1) h2 (borrow_there hb2) hS.1 (fun _ h => absurd h List.not_mem_nil)
    fun env hl => ?_
  refine rowsProg_run defs c Q M h1 (borrow_there hb1) h2 (borrow_there hb2) S.rows 1 _ env _ hS.2 hl ?_
  rw [dif_pos hw]
  refine load_step defs c Q (borrow_here _ _) ?_
  refine store_step defs c Q (hk _ (fun b x h hx => ?_) fun b x hx => ?_)
  · have he : ix2 b x = (colsR cur (256 * (S.K1 + 1)) hw).emb (ix2 b ⟨x.val - cur, h⟩) := ext2
      (colsR_emb0 hw (ix2 b ⟨x.val - cur, h⟩)).symm
      ((Nat.add_sub_cancel' hx).symm.trans (colsR_emb1 hw (ix2 b ⟨x.val - cur, h⟩)).symm)
    conv_lhs => rw [he]
    exact read_in c _ _ _ _ _
  · exact read_off c _ _ _ _ _ (not_mem_colsR hw _ hx)

/-- The segments of a block: its columns hold their values. -/
theorem segs_run {R : HP nD τ sig F} (h1 : M.x1.view.read (Elt F) f1 = X1)
    (hb1 : R ⊢ iprop(pt c M.x1 f1 ∗ (pt c M.x1 f1 -∗ R)))
    (h2 : M.x2.view.read (Elt F) f2 = X2) (hb2 : R ⊢ iprop(pt c M.x2 f2 ∗ (pt c M.x2 f2 -∗ R)))
    {v1 v3 : FVec F (D2 400 128) .f32} {T : Fin 128 → Nat → F .f32} {p : Bool} {off : Nat} {k : P nD τ sig Λ F} (Ss : List Seg) :
    ∀ (cur : Nat) (g : Cont τ F c (M.ob p)), Ss.all segOk = true → cur + width Ss ≤ 8192 → Fits X1 X2 T (off + cur) Ss →
      (∀ b (x : Fin 8192), x.val < cur → (M.ob p).view.read (Elt F) g (ix2 b x) = T b (off + x.val)) →
      (∀ g' : Cont τ F c (M.ob p),
        (∀ b (x : Fin 8192), x.val < cur + width Ss → (M.ob p).view.read (Elt F) g' (ix2 b x) = T b (off + x.val)) →
        iprop(pt c (M.ob p) g' ∗ R) ⊢ W defs c Q k) →
      iprop(pt c (M.ob p) g ∗ R) ⊢ W defs c Q (run M v1 v3 (segs p cur Ss) k) := by
  induction Ss with
  | nil => intro cur g _ _ _ hg hk; exact hk g hg
  | cons S Ss ih =>
    intro cur g hS hw hT hg hk
    rw [List.all_cons, Bool.and_eq_true] at hS
    have hw' : cur + (256 * (S.K1 + 1) + width Ss) ≤ 8192 := hw
    refine segProg_run defs c Q M h1 hb1 h2 hb2 hS.1 (by omega) fun g' ha hb => ?_
    refine ih _ g' hS.2 (by omega) (by rw [← Nat.add_assoc]; exact hT.2) (fun b x hx => ?_) fun g'' hc => ?_
    · by_cases hx' : x.val < cur
      · rw [hb b x hx']; exact hg b x hx'
      · rw [ha b x (by omega) (by omega), ← hT.1 b _ (by omega)]
        exact congrArg (T b) (by omega)
    · exact hk g'' fun b x hx => hc b x (by rw [Nat.add_assoc]; exact hx)

end

end TP
-- ==== Proof.Blocks.lean ====
/-
  The blocks of the program run: a block's copy is started, carries the block's columns away and is waited for one block
  later, while the next block is computed in the other buffer. At the end the output holds the segments' values.
-/
module

public import proofs.«01_k».proof.Proof.Run

@[expose] public section

noncomputable section

namespace TP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Λ : Labels} {F : FTy → Type} [FloatOps F]
variable (defs : Defs nD τ sig (Elt F) Λ) (c : Dev nD) (Q : PUnit.{1} → HP nD τ sig F) (M : Bufs sig)

/-- The output's columns from `a` up to `b`. -/
def colSet (a b : Nat) : Finset (D2 128 160000).Idx := Finset.univ.filter fun i => a ≤ (i 1).val ∧ (i 1).val < b

/-- An index is in a range of columns when its column is. -/
theorem mem_colSet {a b : Nat} {i : (D2 128 160000).Idx} : i ∈ colSet a b ↔ a ≤ (i 1).val ∧ (i 1).val < b := by
  simp [colSet]

/-- Those columns of the output held. -/
abbrev outPt (a b : Nat) (f : Cont τ F c M.out) : HP nD τ sig F :=
  M.out.view.loc (c : Thread nD τ) ↦[M.out.view.setOn (colSet a b)]{fullShare} f

/-- A range of columns cut in two. -/
theorem colSet_union {a b d : Nat} (h : a ≤ b) (h' : b ≤ d) : colSet a d = colSet a b ∪ colSet b d := by
  ext i; simp only [Finset.mem_union, mem_colSet]; omega

/-- Ranges of columns that meet at an end share nothing. -/
theorem colSet_disjoint {a b d : Nat} : Disjoint (colSet a b) (colSet b d) := by
  rw [Finset.disjoint_left]; intro i; simp only [mem_colSet]; omega

/-- Neighbouring columns together. -/
theorem outPt_split {a b d : Nat} (h : a ≤ b) (h' : b ≤ d) (f : Cont τ F c M.out) :
    outPt c M a d f ⊣⊢ iprop(outPt c M a b f ∗ outPt c M b d f) := by
  unfold outPt
  rw [colSet_union h h', View.setOn, Finset.map_union]
  exact pointsTo_union ((Finset.disjoint_map _).2 colSet_disjoint)

/-- No columns. -/
theorem outPt_none (a : Nat) (f : Cont τ F c M.out) : outPt c M a a f = iprop(emp) := by
  unfold outPt
  rw [show colSet a a = ∅ from by ext i; simp only [mem_colSet, Finset.notMem_empty, iff_false]; omega,
    View.setOn, Finset.map_empty]
  exact pointsTo_empty

/-- The columns a copy fills. -/
theorem dst_set {off w : Nat} (h : off + w ≤ 160000) :
    (dstM M off w h).view.set = M.out.view.setOn (colSet off (off + w)) := by
  have hr : (outR off w h).set = colSet off (off + w) := by ext i; rw [mem_outR, mem_colSet]
  exact (View.set_slice _ _).trans (congrArg (Finset.map M.out.view.emb) hr)

/-- Buffers that read the same on some elements hold the same there. -/
theorem agree {sp : Space} {s : Shape} {e : EltTy} (v : View sig .tc sp s e) {f g : v.ty.Contents (Elt F)} {S : Finset s.Idx}
    (h : ∀ x ∈ S, v.read (Elt F) f x = v.read (Elt F) g x) : ∀ i ∈ v.setOn S, f i = g i := by
  intro i hi
  obtain ⟨x, hx, rfl⟩ := Finset.mem_map.1 hi
  have := h x hx
  rw [View.read_apply, View.read_apply] at this
  exact (cast_inj _).1 this

/-- The counters of the copies under way. -/
abbrev EC (nD : Nat) (τ : Topo) (sig : RefSig) (F : FTy → Type) :
    UEmb Counters (Res nD τ sig F) := countersEmb (U := Pipeline.UD sig nD τ)

/-- A copy under way that will deliver `D`. -/
abbrev flight (p : Bool) (off w : Nat) (h : off + w ≤ 160000) (D : HP nD τ sig F) : HP nD τ sig F :=
  Transfers.Flight (EC nD τ sig F) (c : Thread nD τ) (.dma (M.sem p)) () (dstM M off w h).view.dmaCredit D

/-- A semaphore at rest. -/
abbrev idle (p : Bool) : HP nD τ sig F := semVal ((c : Thread nD τ), SemLoc.dma (M.sem p)) 0

/-- The right to wait. -/
abbrev waits : HP nD τ sig F := iprop(∃ W, owes (c : Thread nD τ) 0 W)

/-- The start of a copy: it will deliver the output's columns as `G` has them, and the buffer it read. -/
theorem start_run {R : HP nD τ sig F} {T : Fin 128 → Nat → F .f32} {G f0 : Cont τ F c M.out}
    (hG : ∀ y, M.out.view.read (Elt F) G y = T (y 0) (y 1).val) {p : Bool} {off w : Nat} (hw : 0 + w ≤ 8192) (h0 : 0 < w)
    (h : off + w ≤ 160000) {g : Cont τ F c (M.ob p)}
    (hg : ∀ b (x : Fin 8192), x.val < w → (M.ob p).view.read (Elt F) g (ix2 b x) = T b (off + x.val)) {k : P nD τ sig Λ F}
    (hk : ∀ D Rest : HP nD τ sig F, (iprop(D ∗ Rest) ⊢ iprop(outPt c M off (off + w) G ∗ ∃ g, pt c (M.ob p) g)) →
      iprop(flight c M p off w h D ∗ Rest ∗ R) ⊢ W defs c Q k) :
    iprop(pt c (M.ob p) g ∗ outPt c M off (off + w) f0 ∗ idle c M p ∗ R) ⊢ W defs c Q (startProg M p off w k) := by
  unfold startProg
  rw [dif_pos ⟨hw, h⟩]
  have hsub : (srcM M p w hw).view.set ⊆ (M.ob p).view.set := View.set_slice_subset _ _
  have hsplit := pointsTo_split_subset (nD := nD) (τ := τ) (sig := sig) (Ix := Unit) (Val := Elt F) (Name := ℕ)
    (U := Pipeline.UD sig nD τ) (Lvl := ℕ) (ℓ := (M.ob p).view.loc (c : Thread nD τ)) (q := fullShare) (f := g) hsub
  have hres : outPt c M off (off + w) ((dstM M off w h).view.write (Elt F) f0 ((srcM M p w hw).view.read (Elt F) g) Finset.univ)
      = outPt c M off (off + w) G := by
    refine pointsTo_congr (agree M.out.view fun y hy => ?_)
    rw [mem_colSet] at hy
    have hy' : (y 1).val - off < w := by omega
    have he : y = (outR off w h).emb (ix2 (y 0) ⟨(y 1).val - off, hy'⟩) := ext2 (outR_emb0 h (ix2 (y 0) ⟨(y 1).val - off, hy'⟩)).symm
      ((Nat.add_sub_cancel' hy.1).symm.trans (outR_emb1 h (ix2 (y 0) ⟨(y 1).val - off, hy'⟩)).symm)
    have hx : (y 1).val - off < 8192 := by omega
    rw [hG]
    conv_lhs => rw [he]
    refine (read_in c M.out (outR off w h) f0 _ _).trans ?_
    have he' : (colsR 0 w hw).emb (ix2 (y 0) ⟨(y 1).val - off, hy'⟩) = ix2 (y 0) ⟨(y 1).val - off, hx⟩ := ext2
      (colsR_emb0 hw (ix2 (y 0) ⟨(y 1).val - off, hy'⟩)) ((colsR_emb1 hw (ix2 (y 0) ⟨(y 1).val - off, hy'⟩)).trans (Nat.zero_add _))
    refine (congrArg ((M.ob p).view.read (Elt F) g) he').trans ?_
    exact (hg (y 0) ⟨(y 1).val - off, hx⟩ hy').trans (congrArg (T (y 0)) (Nat.add_sub_cancel' hy.1))
  have hk' := hk
    iprop(outPt c M off (off + w) ((dstM M off w h).view.write (Elt F) f0 ((srcM M p w hw).view.read (Elt F) g) Finset.univ) ∗
      ((M.ob p).view.loc (c : Thread nD τ) ↦[(srcM M p w hw).view.set]{fullShare} g))
    ((M.ob p).view.loc (c : Thread nD τ) ↦[(M.ob p).view.set \ (srcM M p w hw).view.set]{fullShare} g) (by
      rw [hres]
      iintro ⟨⟨Hd, Hs⟩, Hr⟩
      isplitl [Hd]; · iexact Hd
      iexists g
      iapply hsplit.2
      isplitl [Hs]; · iexact Hs
      iexact Hr)
  iintro ⟨Hob, Hout, Hs, HR⟩
  ihave Hob := hsplit.1 $$ Hob
  icases Hob with ⟨Hsrc, Hrest⟩
  iapply (Transfers.wp_dmaLocal (src := srcM M p w hw) (dst := dstM M off w h) (EC nD τ sig F) Variants.none (c : Thread nD τ) none
    () (dstM M off w h).view.dmaCredit rfl
    (View.dmaCredit_pos _ (pos2 (by decide) h0)) (fs := g) (fd := f0)
    (Sd := M.out.view.setOn (colSet off (off + w))) (dst_set M h).le) $$ [Hsrc Hout Hs]
  · isplitl [Hsrc]; · iexact Hsrc
    isplitl [Hout]; · iexact Hout
    iexact Hs
  iintro Hf
  iapply hk'
  isplitl [Hf]; · iexact Hf
  isplitl [Hrest]; · iexact Hrest
  iexact HR

/-- The wait for a copy: what it delivers. -/
theorem wait_run {R D : HP nD τ sig F} {p : Bool} {off w : Nat} (hw : 0 + w ≤ 8192) (h : off + w ≤ 160000) {k : P nD τ sig Λ F}
    (hk : iprop(D ∗ idle c M p ∗ waits c ∗ R) ⊢ W defs c Q k) :
    iprop(flight c M p off w h D ∗ waits c ∗ R) ⊢ W defs c Q (waitProg M p off w k) := by
  unfold waitProg
  rw [dif_pos ⟨hw, h⟩]
  iintro ⟨Hf, ⟨%Ws, Ho⟩, HR⟩
  iapply (Transfers.wp_waitLocal (EC nD τ sig F) Variants.none (c : Thread nD τ) none () rfl) $$ [Hf Ho]
  · isplitl [Hf]; · iexact Hf
    iexact Ho
  iintro ⟨HD, Hs, Ho⟩
  iapply hk
  isplitl [HD]; · iexact HD
  isplitl [Hs]; · iexact Hs
  isplitl [Ho]; · iexists _; iexact Ho
  iexact HR

/-- Running one list of steps after another. -/
theorem run_append (v1 v3 : FVec F (D2 400 128) .f32) (a b : List Instr) (k : P nD τ sig Λ F) :
    run M v1 v3 (a ++ b) k = run M v1 v3 a (run M v1 v3 b k) := by
  induction a with
  | nil => rfl
  | cons I a ih => exact congrArg (runI M v1 v3 I) ih

/-- The two transposed inputs' buffers. -/
abbrev xs (f1 : Cont τ F c M.x1) (f2 : Cont τ F c M.x2) : HP nD τ sig F := iprop(pt c M.x1 f1 ∗ pt c M.x2 f2)

/-- An output buffer holding anything. -/
abbrev obAny (p : Bool) : HP nD τ sig F := iprop(∃ g, pt c (M.ob p) g)

/-- What is held when the blocks are done. -/
abbrev done (p : Bool) (G : Cont τ F c M.out) : HP nD τ sig F :=
  iprop(outPt c M 0 160000 G ∗ obAny c M p ∗ obAny c M (!p) ∗ idle c M p ∗ idle c M (!p) ∗ waits c)

/-- When nothing is in flight, which buffer is called the current one does not matter. -/
theorem done_flip (p : Bool) (G : Cont τ F c M.out) : done c M (!p) G ⊢ done c M p G := by
  unfold done
  rw [Bool.not_not]
  iintro ⟨HG, H1, H2, H3, H4, HW⟩
  isplitl [HG]; · iexact HG
  isplitl [H2]; · iexact H2
  isplitl [H1]; · iexact H1
  isplitl [H4]; · iexact H4
  isplitl [H3]; · iexact H3
  iexact HW

/-- The same, with the first buffer called the current one. -/
theorem done_even (p : Bool) (G : Cont τ F c M.out) : done c M p G ⊢ done c M false G := by
  cases p
  · exact .rfl
  · exact done_flip c M false G

section
variable {R : HP nD τ sig F} {f1 : Cont τ F c M.x1} {f2 : Cont τ F c M.x2} {X1 X2 v1 v3 : FVec F (D2 400 128) .f32}
  {T : Fin 128 → Nat → F .f32} {G f0 : Cont τ F c M.out} {k : P nD τ sig Λ F}

/-- The blocks after the first, from a state where the block before is on its way. -/
theorem blockSteps_run (h1 : M.x1.view.read (Elt F) f1 = X1) (h2 : M.x2.view.read (Elt F) f2 = X2)
    (hb1 : R ⊢ iprop(pt c M.x1 f1 ∗ (pt c M.x1 f1 -∗ R))) (hb2 : R ⊢ iprop(pt c M.x2 f2 ∗ (pt c M.x2 f2 -∗ R)))
    (hG : ∀ y, M.out.view.read (Elt F) G y = T (y 0) (y 1).val) (hk : iprop(done c M false G ∗ R) ⊢ W defs c Q k)
    (Bs : List (List Seg)) :
    ∀ (p : Bool) (poff pw : Nat) (hpw : 0 + pw ≤ 8192) (hp : poff + pw ≤ 160000) (D Rest : HP nD τ sig F),
      Bs.all blockOk = true → poff + pw + widths Bs = 160000 → Fits X1 X2 T (poff + pw) Bs.flatten →
      (iprop(D ∗ Rest) ⊢ iprop(outPt c M poff (poff + pw) G ∗ obAny c M (!p))) →
      iprop(flight c M (!p) poff pw hp D ∗ Rest ∗ outPt c M 0 poff G ∗ outPt c M (poff + pw) 160000 f0 ∗ obAny c M p ∗
        idle c M p ∗ waits c ∗ R) ⊢ W defs c Q (run M v1 v3 (blockSteps p poff pw Bs) k) := by
  induction Bs with
  | nil =>
    intro p poff pw hpw hp D Rest _ hsum _ hD
    have hsum : poff + pw = 160000 := hsum
    iintro ⟨Hf, Hrest, Hdone, Hfut, Hob, Hid, Hw, HR⟩
    iapply (wait_run defs c Q M (R := iprop(Rest ∗ outPt c M 0 poff G ∗ obAny c M p ∗ idle c M p ∗ R)) hpw hp ?_) $$
      [Hf Hrest Hdone Hob Hid Hw HR]
    · iintro ⟨HD, Hid', Hw, Hrest, Hdone, Hob, Hid, HR⟩
      iapply hk
      isplitr [HR]
      · iapply (done_even c M p G)
        ihave H := hD $$ [HD Hrest]
        · isplitl [HD]; · iexact HD
          iexact Hrest
        icases H with ⟨Hnew, Hob'⟩
        isplitl [Hdone Hnew]
        · iapply (outPt_split c M (Nat.zero_le poff) (by omega) G).2
          isplitl [Hdone]; · iexact Hdone
          rw [hsum]; iexact Hnew
        isplitl [Hob]; · iexact Hob
        isplitl [Hob']; · iexact Hob'
        isplitl [Hid]; · iexact Hid
        isplitl [Hid']; · iexact Hid'
        iexact Hw
      · iexact HR
    · isplitl [Hf]; · iexact Hf
      isplitl [Hw]; · iexact Hw
      isplitl [Hrest]; · iexact Hrest
      isplitl [Hdone]; · iexact Hdone
      isplitl [Hob]; · iexact Hob
      isplitl [Hid]; · iexact Hid
      iexact HR
  | cons B Bs ih =>
    intro p poff pw hpw hp D Rest hok hsum hT hD
    rw [List.all_cons, Bool.and_eq_true, blockOk, Bool.and_eq_true, Bool.and_eq_true] at hok
    obtain ⟨⟨⟨hS, hw⟩, hw0⟩, hok⟩ := hok
    have hw := Nat.le_of_ble_eq_true hw
    have hw0 := Nat.le_of_ble_eq_true hw0
    have hsum : poff + pw + (width B + widths Bs) = 160000 := hsum
    have hw' : 0 + width B ≤ 8192 := by omega
    have hnew : poff + pw + width B ≤ 160000 := by omega
    have hT := fits_append X1 X2 T B Bs.flatten (poff + pw) hT
    -- the block computed and its copy started
    have main : ∀ k' : P nD τ sig Λ F,
        (∀ D' Rest' : HP nD τ sig F,
          (iprop(D' ∗ Rest') ⊢ iprop(outPt c M (poff + pw) (poff + pw + width B) G ∗ obAny c M p)) →
          iprop(flight c M p (poff + pw) (width B) hnew D' ∗ Rest' ∗ flight c M (!p) poff pw hp D ∗ Rest ∗ outPt c M 0 poff G ∗
            outPt c M (poff + pw + width B) 160000 f0 ∗ waits c ∗ R) ⊢ W defs c Q k') →
        iprop(flight c M (!p) poff pw hp D ∗ Rest ∗ outPt c M 0 poff G ∗ outPt c M (poff + pw) 160000 f0 ∗ obAny c M p ∗
          idle c M p ∗ waits c ∗ R)
          ⊢ W defs c Q (run M v1 v3 (segs p 0 B) (startProg M p (poff + pw) (width B) k')) := by
      intro k' hk'
      iintro ⟨Hf, Hrest, Hdone, Hfut, ⟨%g, Hob⟩, Hid, Hw, HR⟩
      iapply (segs_run defs c Q M h1
        (borrow_there (borrow_there (borrow_there (borrow_there (borrow_there (borrow_there hb1)))))) h2
        (borrow_there (borrow_there (borrow_there (borrow_there (borrow_there (borrow_there hb2))))))
        (R := iprop(flight c M (!p) poff pw hp D ∗ Rest ∗ outPt c M 0 poff G ∗ outPt c M (poff + pw) 160000 f0 ∗
          idle c M p ∗ waits c ∗ R)) (T := T) (off := poff + pw) B 0 g hS hw' hT.1
          (fun _ _ hx => absurd hx (Nat.not_lt_zero _)) fun g' hg' => ?_) $$ [Hf Hrest Hdone Hfut Hob Hid Hw HR]
      · iintro ⟨Hob, Hf, Hrest, Hdone, Hfut, Hid, Hw, HR⟩
        ihave Hfut := (outPt_split c M (Nat.le_add_right (poff + pw) (width B)) hnew f0).1 $$ Hfut
        icases Hfut with ⟨Hnow, Hfut⟩
        iapply (start_run defs c Q M hG hw' hw0 hnew (f0 := f0) (T := T) (g := g')
          (R := iprop(flight c M (!p) poff pw hp D ∗ Rest ∗ outPt c M 0 poff G ∗ outPt c M (poff + pw + width B) 160000 f0 ∗
            waits c ∗ R)) (fun b x hx => hg' b x (by omega)) hk') $$ [Hf Hrest Hdone Hfut Hnow Hob Hid Hw HR]
        isplitl [Hob]; · iexact Hob
        isplitl [Hnow]; · iexact Hnow
        isplitl [Hid]; · iexact Hid
        isplitl [Hf]; · iexact Hf
        isplitl [Hrest]; · iexact Hrest
        isplitl [Hdone]; · iexact Hdone
        isplitl [Hfut]; · iexact Hfut
        isplitl [Hw]; · iexact Hw
        iexact HR
      · isplitl [Hob]; · iexact Hob
        isplitl [Hf]; · iexact Hf
        isplitl [Hrest]; · iexact Hrest
        isplitl [Hdone]; · iexact Hdone
        isplitl [Hfut]; · iexact Hfut
        isplitl [Hid]; · iexact Hid
        isplitl [Hw]; · iexact Hw
        iexact HR
    cases Bs with
    | nil =>
      have hsum : poff + pw + width B = 160000 := hsum
      show _ ⊢ W defs c Q (run M v1 v3 (segs p 0 B ++ _) k)
      rw [run_append]
      refine main _ fun D' Rest' hD' => ?_
      iintro ⟨Hf', Hrest', Hf, Hrest, Hdone, Hfut, Hw, HR⟩
      iapply (wait_run defs c Q M (R := iprop(Rest' ∗ flight c M (!p) poff pw hp D ∗ Rest ∗ outPt c M 0 poff G ∗ R)) hw' hnew ?_) $$
        [Hf Hf' Hrest Hrest' Hdone Hw HR]
      · iintro ⟨HD', Hid, Hw, Hrest', Hf, Hrest, Hdone, HR⟩
        iapply (wait_run defs c Q M (R := iprop(D' ∗ idle c M p ∗ Rest' ∗ Rest ∗ outPt c M 0 poff G ∗ R)) hpw hp ?_) $$
          [HD' Hid Hw Hrest' Hf Hrest Hdone HR]
        · iintro ⟨HD, Hid', Hw, HD', Hid, Hrest', Hrest, Hdone, HR⟩
          iapply hk
          isplitr [HR]
          · iapply (done_even c M p G)
            ihave H := hD $$ [HD Hrest]
            · isplitl [HD]; · iexact HD
              iexact Hrest
            icases H with ⟨Hprev, Hob'⟩
            ihave H := hD' $$ [HD' Hrest']
            · isplitl [HD']; · iexact HD'
              iexact Hrest'
            icases H with ⟨Hnew, Hob⟩
            isplitl [Hdone Hnew Hprev]
            · iapply (outPt_split c M (Nat.zero_le poff) (by omega) G).2
              isplitl [Hdone]; · iexact Hdone
              iapply (outPt_split c M (Nat.le_add_right poff pw) hp G).2
              isplitl [Hprev]; · iexact Hprev
              rw [hsum]; iexact Hnew
            isplitl [Hob]; · iexact Hob
            isplitl [Hob']; · iexact Hob'
            isplitl [Hid]; · iexact Hid
            isplitl [Hid']; · iexact Hid'
            iexact Hw
          · iexact HR
        · isplitl [Hf]; · iexact Hf
          isplitl [Hw]; · iexact Hw
          isplitl [HD']; · iexact HD'
          isplitl [Hid]; · iexact Hid
          isplitl [Hrest']; · iexact Hrest'
          isplitl [Hrest]; · iexact Hrest
          isplitl [Hdone]; · iexact Hdone
          iexact HR
      · isplitl [Hf']; · iexact Hf'
        isplitl [Hw]; · iexact Hw
        isplitl [Hrest']; · iexact Hrest'
        isplitl [Hf]; · iexact Hf
        isplitl [Hrest]; · iexact Hrest
        isplitl [Hdone]; · iexact Hdone
        iexact HR
    | cons B' Bs =>
      show _ ⊢ W defs c Q (run M v1 v3 (segs p 0 B ++ _) k)
      rw [run_append]
      refine main _ fun D' Rest' hD' => ?_
      have next := ih (!p) (poff + pw) (width B) hw' hnew D' Rest' hok (by omega) hT.2 (by rw [Bool.not_not]; exact hD')
      rw [Bool.not_not] at next
      iintro ⟨Hf', Hrest', Hf, Hrest, Hdone, Hfut, Hw, HR⟩
      iapply (wait_run defs c Q M (R := iprop(flight c M p (poff + pw) (width B) hnew D' ∗ Rest' ∗ Rest ∗ outPt c M 0 poff G ∗
        outPt c M (poff + pw + width B) 160000 f0 ∗ R)) hpw hp ?_) $$ [Hf Hf' Hrest Hrest' Hdone Hfut Hw HR]
      · iintro ⟨HD, Hid', Hw, Hf', Hrest', Hrest, Hdone, Hfut, HR⟩
        ihave H := hD $$ [HD Hrest]
        · isplitl [HD]; · iexact HD
          iexact Hrest
        icases H with ⟨Hprev, Hob'⟩
        iapply next
        isplitl [Hf']; · iexact Hf'
        isplitl [Hrest']; · iexact Hrest'
        isplitl [Hdone Hprev]
        · iapply (outPt_split c M (Nat.zero_le poff) (Nat.le_add_right poff pw) G).2
          isplitl [Hdone]; · iexact Hdone
          iexact Hprev
        isplitl [Hfut]; · iexact Hfut
        isplitl [Hob']; · iexact Hob'
        isplitl [Hid']; · iexact Hid'
        isplitl [Hw]; · iexact Hw
        iexact HR
      · isplitl [Hf]; · iexact Hf
        isplitl [Hw]; · iexact Hw
        isplitl [Hf']; · iexact Hf'
        isplitl [Hrest']; · iexact Hrest'
        isplitl [Hrest]; · iexact Hrest
        isplitl [Hdone]; · iexact Hdone
        isplitl [Hfut]; · iexact Hfut
        iexact HR

/-- All the blocks, from a state where nothing is on its way. -/
theorem allBlocks_run (h1 : M.x1.view.read (Elt F) f1 = X1) (h2 : M.x2.view.read (Elt F) f2 = X2)
    (hb1 : R ⊢ iprop(pt c M.x1 f1 ∗ (pt c M.x1 f1 -∗ R))) (hb2 : R ⊢ iprop(pt c M.x2 f2 ∗ (pt c M.x2 f2 -∗ R)))
    (hG : ∀ y, M.out.view.read (Elt F) G y = T (y 0) (y 1).val) (hk : iprop(done c M false G ∗ R) ⊢ W defs c Q k)
    (Bs : List (List Seg)) (hok : Bs.all blockOk = true) (hsum : widths Bs = 160000) (hT : Fits X1 X2 T 0 Bs.flatten) :
    iprop(outPt c M 0 160000 f0 ∗ obAny c M false ∗ obAny c M true ∗ idle c M false ∗ idle c M true ∗ waits c ∗ R)
      ⊢ W defs c Q (run M v1 v3 (allBlocks Bs) k) := by
  cases Bs with
  | nil => exact absurd hsum (by decide)
  | cons B Bs =>
    rw [List.all_cons, Bool.and_eq_true, blockOk, Bool.and_eq_true, Bool.and_eq_true] at hok
    obtain ⟨⟨⟨hS, hw⟩, hw0⟩, hok⟩ := hok
    have hw := Nat.le_of_ble_eq_true hw
    have hw0 := Nat.le_of_ble_eq_true hw0
    have hsum : width B + widths Bs = 160000 := hsum
    have hw' : 0 + width B ≤ 8192 := by omega
    have hnew : 0 + width B ≤ 160000 := by omega
    have hT := fits_append X1 X2 T B Bs.flatten 0 hT
    show _ ⊢ W defs c Q (run M v1 v3 (segs false 0 B ++ _) k)
    rw [run_append]
    iintro ⟨Hfut, ⟨%g, Hob⟩, Hob', Hid, Hid', Hw, HR⟩
    iapply (segs_run defs c Q M h1 (borrow_there (borrow_there (borrow_there (borrow_there (borrow_there hb1))))) h2
      (borrow_there (borrow_there (borrow_there (borrow_there (borrow_there hb2)))))
      (R := iprop(outPt c M 0 160000 f0 ∗ obAny c M true ∗ idle c M false ∗ idle c M true ∗ waits c ∗ R)) (T := T) (off := 0)
      B 0 g hS hw' hT.1 (fun _ _ hx => absurd hx (Nat.not_lt_zero _)) fun g' hg' => ?_) $$ [Hfut Hob Hob' Hid Hid' Hw HR]
    · iintro ⟨Hob, Hfut, Hob', Hid, Hid', Hw, HR⟩
      ihave Hfut := (outPt_split c M (Nat.le_add_right 0 (width B)) hnew f0).1 $$ Hfut
      icases Hfut with ⟨Hnow, Hfut⟩
      iapply (start_run defs c Q M hG hw' hw0 hnew (f0 := f0) (T := T) (g := g')
        (R := iprop(outPt c M (0 + width B) 160000 f0 ∗ obAny c M true ∗ idle c M true ∗ waits c ∗ R))
        (fun b x hx => hg' b x (by omega)) fun D' Rest' hD' => ?_) $$ [Hfut Hnow Hob Hob' Hid Hid' Hw HR]
      · iintro ⟨Hf, Hrest, Hfut, Hob', Hid', Hw, HR⟩
        iapply (blockSteps_run defs c Q M h1 h2 hb1 hb2 hG hk Bs true 0 (width B) hw' hnew D' Rest' hok (by omega) hT.2 hD')
        isplitl [Hf]; · iexact Hf
        isplitl [Hrest]; · iexact Hrest
        isplitr
        · rw [outPt_none]; iempintro
        isplitl [Hfut]; · iexact Hfut
        isplitl [Hob']; · iexact Hob'
        isplitl [Hid']; · iexact Hid'
        isplitl [Hw]; · iexact Hw
        iexact HR
      · isplitl [Hob]; · iexact Hob
        isplitl [Hnow]; · iexact Hnow
        isplitl [Hid]; · iexact Hid
        isplitl [Hfut]; · iexact Hfut
        isplitl [Hob']; · iexact Hob'
        isplitl [Hid']; · iexact Hid'
        isplitl [Hw]; · iexact Hw
        iexact HR
    · isplitl [Hob]; · iexact Hob
      isplitl [Hfut]; · iexact Hfut
      isplitl [Hob']; · iexact Hob'
      isplitl [Hid]; · iexact Hid
      isplitl [Hid']; · iexact Hid'
      isplitl [Hw]; · iexact Hw
      iexact HR

end

/-! ## The whole program -/

/-- What the program computes from its two inputs. -/
def kernelOut (x0 x1 : FVec F (D2 128 400) .f32) : Fin 128 → Nat → F .f32 :=
  outVal (permuted (transpose (D2 400 128) [1, 0] x0 (transposes2 _ _)))
    (permuted (transpose (D2 400 128) [1, 0] x1 (transposes2 _ _))) blocks.flatten

/-- The two scratch inputs, the two output buffers and the semaphores, at rest. -/
abbrev own : HP nD τ sig F :=
  iprop((∃ f, pt c M.x1 f) ∗ (∃ f, pt c M.x2 f) ∗ obAny c M false ∗ obAny c M true ∗ idle c M false ∗ idle c M true)

/-- The whole program. -/
def prog : P nD τ sig Λ F := withInputs M fun v1 v3 => run M v1 v3 steps (.ret ⟨⟩)

/-- The program from its inputs: the output holds what it computes, everything else is as it was. -/
theorem kernel_run {R : HP nD τ sig F} {fa0 : Cont τ F c M.a0} {fa1 : Cont τ F c M.a1} {f0 G : Cont τ F c M.out}
    (hG : ∀ y, M.out.view.read (Elt F) G y =
      kernelOut (M.a0.view.read (Elt F) fa0) (M.a1.view.read (Elt F) fa1) (y 0) (y 1).val)
    (hQ : iprop(pt c M.a0 fa0 ∗ pt c M.a1 fa1 ∗ outPt c M 0 160000 G ∗ own c M ∗ waits c ∗ R) ⊢ Q ⟨⟩) :
    iprop(pt c M.a0 fa0 ∗ pt c M.a1 fa1 ∗ outPt c M 0 160000 f0 ∗ own c M ∗ waits c ∗ R)
      ⊢ W defs c Q (prog M) := by
  have hread : ∀ {m : Memref sig .tc .vmem (D2 128 400) .f32} (f : Cont τ F c m),
      m.view.readAt (Elt F) (Rect.unit (s := D2 128 400) ![0, 0] (D2 128 400).size (inb2 le_rfl le_rfl)).toLoadRect f
        = m.view.read (Elt F) f := by
    intro m f
    funext i
    refine congrArg (m.view.read (Elt F) f) (ext2 ?_ ?_)
    · show 0 + 1 * (i 0).val = _; omega
    · show 0 + 1 * (i 1).val = _; omega
  unfold prog withInputs
  refine load_step defs c Q (borrow_here _ _) ?_
  refine load_step defs c Q (borrow_there (borrow_here _ _)) ?_
  rw [hread, hread]
  unfold steps
  beta_reduce
  rw [run_append]
  iintro ⟨Ha0, Ha1, Hout, ⟨⟨%f1, H1⟩, ⟨%f2, H2⟩, Hob, Hob', Hid, Hid'⟩, Hw, HR⟩
  iapply (copies_run defs c Q M (R := iprop(outPt c M 0 160000 f0 ∗ obAny c M false ∗ obAny c M true ∗ idle c M false ∗
    idle c M true ∗ waits c ∗ pt c M.a0 fa0 ∗ pt c M.a1 fa1 ∗ R)) (fun f1 f2 h1 h2 => ?_) 400 0 rfl f1 f2
    (fun _ h => absurd h (Nat.not_lt_zero _)) fun _ h => absurd h (Nat.not_lt_zero _)) $$ [Ha0 Ha1 Hout H1 H2 Hob Hob' Hid Hid' Hw HR]
  · iintro ⟨H1, H2, Hout, Hob, Hob', Hid, Hid', Hw, Ha0, Ha1, HR⟩
    iapply (allBlocks_run defs c Q M h1 h2 (R := iprop(pt c M.x1 f1 ∗ pt c M.x2 f2 ∗ pt c M.a0 fa0 ∗ pt c M.a1 fa1 ∗ R))
      (borrow_here _ _) (borrow_there (borrow_here _ _)) hG ?_ blocks blocks_ok widths_blocks (fits_outVal _ _ _)) $$
      [Ha0 Ha1 Hout H1 H2 Hob Hob' Hid Hid' Hw HR]
    · iintro ⟨⟨HG, Hob, Hob', Hid, Hid', Hw⟩, H1, H2, Ha0, Ha1, HR⟩
      iapply (le_wp_ret (a := ⟨⟩))
      iapply hQ
      isplitl [Ha0]; · iexact Ha0
      isplitl [Ha1]; · iexact Ha1
      isplitl [HG]; · iexact HG
      isplitr [Hw HR]
      · isplitl [H1]; · iexists f1; iexact H1
        isplitl [H2]; · iexists f2; iexact H2
        isplitl [Hob]; · iexact Hob
        isplitl [Hob']; · iexact Hob'
        isplitl [Hid]; · iexact Hid
        iexact Hid'
      isplitl [Hw]; · iexact Hw
      iexact HR
    · isplitl [Hout]; · iexact Hout
      isplitl [Hob]; · iexact Hob
      isplitl [Hob']; · iexact Hob'
      isplitl [Hid]; · iexact Hid
      isplitl [Hid']; · iexact Hid'
      isplitl [Hw]; · iexact Hw
      isplitl [H1]; · iexact H1
      isplitl [H2]; · iexact H2
      isplitl [Ha0]; · iexact Ha0
      isplitl [Ha1]; · iexact Ha1
      iexact HR
  · isplitl [H1]; · iexact H1
    isplitl [H2]; · iexact H2
    isplitl [Hout]; · iexact Hout
    isplitl [Hob]; · iexact Hob
    isplitl [Hob']; · iexact Hob'
    isplitl [Hid]; · iexact Hid
    isplitl [Hid']; · iexact Hid'
    isplitl [Hw]; · iexact Hw
    isplitl [Ha0]; · iexact Ha0
    isplitl [Ha1]; · iexact Ha1
    iexact HR

end TP
-- ==== Proof.LaunchIdeal.lean ====
/-
  The idealized kernel's launch: its body is the program of `Program` over the launch's buffers, so the run of `Blocks`
  gives what the result holds at the end, and that everything else ends as it began.
-/
module

public import proofs.«01_k».proof.Proof.Blocks
public import proofs.«01_k».proof.Proof.Gen.KernelIdeal.Launch
public import proofs.«01_k».proof.Proof.Gen.KernelIdeal.Points
public import Idealize.ShloMosaic.Lib.Pipeline.FrameValue

@[expose] public section

noncomputable section

namespace TP.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The printed body is the program over the table. -/
theorem kernel_eq [Cert.KernelIdeal.Facts] (a0 a1 : Memref sig .tc .vmem (D2 128 400) .f32)
    (out : Memref sig .tc .hbm (D2 128 160000) .f32) (x1 x2 : Memref sig .tc .vmem (D2 400 128) .f32)
    (ob0 ob1 : Memref sig .tc .vmem (D2 128 8192) .f32) (sems : DmaSems sig (D1 2)) (h0 : a0.IsWhole) (h1 : a1.IsWhole)
    (h2 : out.IsWhole) (h3 : x1.IsWhole) (h4 : x2.IsWhole) (h5 : ob0.IsWhole) (h6 : ob1.IsWhole) :
    (cc0__tp_kernel a0 h0 a1 h1 out h2 x1 h3 x2 h4 ob0 h5 ob1 h6 sems : P nD τ sig Λ₀ F)
      = prog ⟨a0, a1, out, x1, x2, ob0, ob1, sems⟩ := by
  sl_kernel_rfl

variable (m : (ℓ : Loc nD τ sig) → Buf (Elt F) ℓ) (ρ : Dev nD → PrngReg)

/-- The buffers as launched. -/
abbrev V (c : Dev nD) (b : Ref sig .tc) : Buf (Elt F) ((c : Thread nD τ).loc b) := m ((c : Thread nD τ).loc b)

/-- The main program is the launch of the one kernel. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The result, which the body writes. -/
def R0 : Finset (Ref sig .tc) := {main_v0}

/-- The result is a buffer that the launch stages no window of. -/
theorem R0_sub : R0 ⊆ Pipeline.restRefs sig spec0 \ ∅ := by decide

/-- What the result holds at the end. -/
def result (c : Dev nD) : Buf (Elt F) ((c : Thread nD τ).loc main_v0) :=
  fun y : (D2 128 160000).Idx => kernelOut (V m c main_arg0) (V m c main_arg1) (y 0) (y 1).val

/-- The unscoped buffers at the end. -/
def V' (c : Dev nD) (b : Ref sig .tc) : Buf (Elt F) ((c : Thread nD τ).loc b) :=
  if h : b = main_v0 then h ▸ result m c else V m c b

/-- The result at the end. -/
theorem V'_result (c : Dev nD) : V' m c main_v0 = result m c := dif_pos rfl

/-- The body's two semaphores. -/
abbrev osem0 : Fin 2 → SemLoc sig := fun j => (![SemLoc.dma 2, SemLoc.dma 3] : Fin 2 → SemLoc sig) j
/-- The semaphores that the kernel has to itself. -/
theorem ownSemFacts0 : Pipeline.OwnSemFacts spec0 osem0 := by decide
/-- Those semaphores, one by one. -/
theorem ownSems00_eq (c : Dev nD) :
    (Pipeline.ownSems0 (Ix := Unit) (Name := ℕ) (U := Pipeline.UD sig nD τ) (Lvl := ℕ) (Val := Elt F) (τ := τ) osem0 c : HP nD τ sig F)
      = iprop(semVal ((c : Thread nD τ), SemLoc.dma 2) 0 ∗ semVal ((c : Thread nD τ), SemLoc.dma 3) 0) := by
  rw [Pipeline.ownSems0_eq_of_list c osem0 [0, 1] (by decide) (by decide)]; rfl

/-- The program's buffers at a point. -/
abbrev bufs (t : Fin cfg0.N) : Bufs sig :=
  ⟨win0_0.stage (cfg0.slots t 0), win0_1.stage (cfg0.slots t 1), Memref.whole main_v0, Memref.whole cc0_scratch0,
    Memref.whole cc0_scratch1, Memref.whole cc0_scratch2, Memref.whole cc0_scratch3, cc0_scratch4⟩

/-- The body that the launch runs is the kernel. -/
theorem body_eq (t : Fin cfg0.N) :
    (bodyAt0 t : P nD τ sig Λ₀ F) = prog (bufs t) :=
  kernel_eq _ _ _ _ _ _ _ _ _ _ _ _ _ _ _

/-- A buffer held whole, as a memref. -/
theorem pt_whole (c : Dev nD) (b : Ref sig .tc) (f : Buf (Elt F) ((c : Thread nD τ).loc b)) :
    (pt c (Memref.whole b) f : HP nD τ sig F) = ((c : Thread nD τ).loc b ↦{fullShare} f) :=
  congrArg (fun S => ((c : Thread nD τ).loc b ↦[S]{fullShare} f : HP nD τ sig F)) (View.set_whole b)

/-- A buffer with some contents. -/
theorem pt_any (c : Dev nD) (b : Ref sig .tc) :
    (iprop(∃ f, pt c (Memref.whole b) f) : HP nD τ sig F)
      = iprop(∃ f : Buf (Elt F) ((c : Thread nD τ).loc b), ((c : Thread nD τ).loc b) ↦{fullShare} f) :=
  congrArg _ (funext fun f => pt_whole c b f)

/-- The result held whole, as all its columns. -/
theorem outPt_whole (c : Dev nD) (t : Fin cfg0.N) (f : Buf (Elt F) ((c : Thread nD τ).loc main_v0)) :
    (outPt c (bufs t) 0 160000 f : HP nD τ sig F) = ((c : Thread nD τ).loc main_v0 ↦{fullShare} f) := by
  have h : colSet 0 160000 = Finset.univ := by
    ext i
    have : (i 1).val < 160000 := (i 1).isLt
    simp [mem_colSet, this]
  refine Eq.trans ?_ (pt_whole c main_v0 f)
  unfold outPt
  rw [h]
  rfl

/-- The launch's invariant with the result at contents `G`, conjunct by conjunct. -/
theorem Phi_eq (G : (c : Dev nD) → (b : Ref sig .tc) → Buf (Elt F) ((c : Thread nD τ).loc b)) (c : Dev nD) :
    (Pipeline.ΦDRG osem0 spec0 ∅ R0 (V m) G c : HP nD τ sig F)
      = iprop(((∃ f, pt c (Memref.whole cc0_scratch0) f) ∗ (∃ f, pt c (Memref.whole cc0_scratch1) f) ∗
          (∃ f, pt c (Memref.whole cc0_scratch2) f) ∗ (∃ f, pt c (Memref.whole cc0_scratch3) f)) ∗ (∃ r, prngReg c r) ∗
          (semVal ((c : Thread nD τ), SemLoc.dma 2) 0 ∗ semVal ((c : Thread nD τ), SemLoc.dma 3) 0) ∗ emp ∗
          ((c : Thread nD τ).loc main_v0 ↦{fullShare} G c main_v0)) := by
  rw [Pipeline.ΦDRG_eq, scopedRest0_eq, ownSems00_eq, bigSep_empty, R0, Pipeline.routed_singleton]
  rw [pt_any, pt_any, pt_any, pt_any]
  rfl

/-! ## The body's obligation -/

/-- The invariant before the body and after it. -/
def dats (_ : Fin 1) (c : Dev nD) : Dat τ (Elt F) Unit ℕ (Pipeline.UD sig nD τ) ℕ cfg0 c where
  A w := V m c (Pipeline.arrRef spec0 w)
  after w _ := match w with
    | ⟨0, _⟩ => V m c main_arg0
    | ⟨1, _⟩ => V m c main_arg1
  Φ t := Pipeline.ΦDRG osem0 spec0 ∅ R0 (V m) (if t = 0 then V m else V' m) c
  q _ := fullShare
  owed _ := 0

/-- The arrays of the windows at the start. -/
theorem A_eq (c : Dev nD) (w : Fin cfg0.W) : (dats m 0 c).A w = V m c (Pipeline.arrRef spec0 w) := by
  dsimp only [dats]

/-- An input's one block is the input. -/
theorem block0 (c : Dev nD) (t : Fin cfg0.N) : (dats m 0 c).blockOf 0 t = V m c main_arg0 := by
  unfold Dat.blockOf
  funext i
  refine congrArg (V m c main_arg0) (ext2 ?_ ?_)
  · show 0 + 1 * (i 0).val = (i 0).val; omega
  · show 0 + 1 * (i 1).val = (i 1).val; omega
/-- The second window’s block is the whole second argument. -/
theorem block1 (c : Dev nD) (t : Fin cfg0.N) : (dats m 0 c).blockOf 1 t = V m c main_arg1 := by
  unfold Dat.blockOf
  funext i
  refine congrArg (V m c main_arg1) (ext2 ?_ ?_)
  · show 0 + 1 * (i 0).val = (i 0).val; omega
  · show 0 + 1 * (i 1).val = (i 1).val; omega

/-- What the first window holds before the body. -/
theorem before0 (c : Dev nD) (t : Fin cfg0.N) (d) : (dats m 0 c).before 0 t d = V m c main_arg0 := by
  refine ((dats m 0 c).before_in_eq_fetched 0 rfl (fun _ => rfl) (fun _ _ _ => rfl) (fun t => ?_) t d).trans ?_
  · rw [block0]; rfl
  · unfold Dat.fetched; rw [block0]; rfl
/-- What the second window holds before the body. -/
theorem before1 (c : Dev nD) (t : Fin cfg0.N) (d) : (dats m 0 c).before 1 t d = V m c main_arg1 := by
  refine ((dats m 0 c).before_in_eq_fetched 1 rfl (fun _ => rfl) (fun _ _ _ => rfl) (fun t => ?_) t d).trans ?_
  · rw [block1]; rfl
  · unfold Dat.fetched; rw [block1]; rfl

/-- What the body is given. -/
def bodyPre (c : Dev nD) (t : Fin cfg0.N) : HP nD τ sig F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What the body leaves. -/
def bodyPost (c : Dev nD) (t : Fin cfg0.N) : HP nD τ sig F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body takes the invariant before it to the invariant after it. -/
theorem sound_body (c : Dev nD) (t : Fin cfg0.N) :
    bodyPre m c t ⊢ wp frame (wpE (defs₀ (F := F)) Variants.none c none) Set.univ (bodyAt0 t) (fun _ => bodyPost m c t) := by
  have h0 : (dats m 0 c).Φ t.castSucc = Pipeline.ΦDRG osem0 spec0 ∅ R0 (V m) (V m) c := by
    rw [fin_N0 t]; rfl
  have h1 : (dats m 0 c).Φ t.succ = Pipeline.ΦDRG osem0 spec0 ∅ R0 (V m) (V' m) c := by
    rw [fin_N0 t]; rfl
  unfold bodyPre bodyPost
  rw [h0, h1, Phi_eq, Phi_eq, V'_result, body_eq,
    show (dats m 0 c).after 0 t = V m c main_arg0 from rfl, show (dats m 0 c).after 1 t = V m c main_arg1 from rfl]
  simp only [before0, before1]
  unfold Dat.owesAt Pipeline.owesWithin
  rw [show (dats m 0 c).owed t.castSucc = 0 from rfl, show (dats m 0 c).owed t.succ = 0 from rfl]
  unfold owns
  iintro ⟨⟨⟨H1, H2, Hb0, Hb1⟩, Hg, ⟨Hq0, Hq1⟩, He, Hout⟩, ⟨%W, -, HW⟩, ⟨%d0, ⟨%f0, %hf0, Ha0⟩⟩, ⟨%d1, ⟨%f1, %hf1, Ha1⟩⟩⟩
  ihave Hout := (Entails.of_eq (outPt_whole c t (V m c main_v0)).symm) $$ Hout
  iapply (kernel_run (F := F) defs₀ c _ (bufs t) (R := iprop(∃ r, prngReg c r)) (fa0 := f0) (fa1 := f1) (f0 := V m c main_v0)
    (G := result m c) ?_ ?_) $$ [H1 H2 Hb0 Hb1 Hq0 Hq1 Hout HW Ha0 Ha1 Hg]
  · intro y
    rw [hf0, hf1]
    exact congrFun (View.read_whole main_v0 (result m c)) y
  · iintro ⟨Ha0, Ha1, Hout, ⟨H1, H2, Hb0, Hb1, Hq0, Hq1⟩, ⟨%W', HW⟩, Hg⟩
    ihave Hout := (Entails.of_eq (outPt_whole c t (result m c))) $$ Hout
    isplitl [H1 H2 Hb0 Hb1 Hq0 Hq1 Hout Hg]
    · isplitl [H1 H2 Hb0 Hb1]
      · isplitl [H1]; · iexact H1
        isplitl [H2]; · iexact H2
        isplitl [Hb0]; · iexact Hb0
        iexact Hb1
      isplitl [Hg]; · iexact Hg
      isplitl [Hq0 Hq1]
      · isplitl [Hq0]; · iexact Hq0
        iexact Hq1
      isplitr
      · iempintro
      iexact Hout
    isplitl [HW]
    · iexists W'; isplitr; · ipureintro; exact fun _ _ => Or.inl trivial
      iexact HW
    isplitl [Ha0]
    · iexists f0; isplitr; · ipureintro; exact hf0
      iexact Ha0
    · iexists f1; isplitr; · ipureintro; exact hf1
      iexact Ha1
  · isplitl [Ha0]; · iexact Ha0
    isplitl [Ha1]; · iexact Ha1
    isplitl [Hout]; · iexact Hout
    isplitl [H1 H2 Hb0 Hb1 Hq0 Hq1]
    · isplitl [H1]; · iexact H1
      isplitl [H2]; · iexact H2
      isplitl [Hb0]; · iexact Hb0
      isplitl [Hb1]; · iexact Hb1
      isplitl [Hq0]; · iexact Hq0
      iexact Hq1
    isplitl [HW]; · iexists W; iexact HW
    iexact Hg

/-- The launch’s one body. -/
theorem defs₀_row (t : Fin cfg0.N) :
    defs₀ (F := F) .tc cfg0.body (cfg0.bodyArgs t (cfg0.slots t)) = bodyAt0 t := by
  unfold defs₀; rw [Defs.onTc_tc]

/-- The body does what the launch asks of it. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePostRG cfgs (dats m) 0 R0 (V m) (V' m) r ∧ r.2.sem = fun _ => 0) :=
  Pipeline.θ_run_frame_dmaRG (Q' := _) cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V := V m) (hmain := hmain m Variants.none) (hA := A_eq m) (G := V' m)
    (hin := fun _ => .rfl) (hout := fun _ => .rfl)

/-- The kernel runs: its result ends at what it computes, its arguments unchanged, every counter at zero. -/
theorem runs : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.2 c main_v0 (by decide)).trans (V'_result m c),
    ((h.1.1 c).1 0).trans (((dats m 0 c).arrAt_in 0 rfl _).trans (A_eq m c 0)),
    ((h.1.1 c).1 1).trans (((dats m 0 c).arrAt_in 1 rfl _).trans (A_eq m c 1))⟩, h.2⟩) (run_main m ρ)

end TP.KernelIdeal
-- ==== Proof.KernelSum.lean ====
/-
  The kernel's segments over the extended reals: an entry of a segment is the sum, over the rows of the first irrep, of
  the first input's number times the sum of the second input's numbers times the table's.
-/
module

public import proofs.«01_k».proof.Proof.Values
public import Idealize.ShloMosaic.Lib.Pipeline.Value
public import Idealize.ShloMosaic.PureOps.Ideal.Laws

@[expose] public section

noncomputable section

namespace TP

open Idealize.ShloMosaic Idealize.SL.Sem

/-! ## Sums -/

/-- The number a bit pattern stands for. -/
def num (w : Nat) : EReal := Ideal.ofBits .f32 (BitVec.ofNat 32 w)

/-- The sum of `g i` over the rows, the first of them the `i`-th. -/
def rowsSum (g : Nat → Row → EReal) : Nat → List Row → EReal
  | _, [] => 0
  | i, r :: rs => g i r + rowsSum g (i + 1) rs

/-- The sum of a list of terms, each a factor at the term's index times the term's number. -/
def colSum (f : Nat → EReal) (c : List (Nat × Nat)) : EReal := (c.map fun e => f e.1 * num e.2).sum

/-! ## One component -/

/-- A running sum of terms, at an index. -/
theorem colFrom_apply (env : Nat → R16 Ideal) (y : (D2 16 128).Idx) (c : List (Nat × Nat)) :
    ∀ a, colFrom env a c y = a y + colSum (fun j => env j y) c := by
  induction c with
  | nil => intro a; exact (add_zero _).symm
  | cons e c ih =>
    intro a
    show colFrom env (addf a (term env e)) c y = _
    rw [ih]
    show a y + env e.1 y * num e.2 + _ = a y + (env e.1 y * num e.2 + _)
    exact add_assoc _ _ _

/-- A component is the sum of its terms. -/
theorem colVal_apply (env : Nat → R16 Ideal) (y : (D2 16 128).Idx) (c : List (Nat × Nat)) :
    colVal env c y = colSum (fun j => env j y) c := by
  cases c with
  | nil => exact Ideal.ofBits_zero_f32
  | cons e c => exact colFrom_apply env y c _

/-! ## The layout of a row -/

/-- There are as many planes as components. -/
theorem planes_length {F : FTy → Type} [FloatOps F] (f : Nat → R16 F) (n : Nat) : ∀ k, (planes f n k).length = n := by
  induction n with
  | zero => intro k; rfl
  | succ n ih => intro k; simp [planes, ih]

/-- The `i`-th plane of a list of planes. -/
theorem planes_get {F : FTy → Type} [FloatOps F] (f : Nat → R16 F) (n : Nat) :
    ∀ k i (h : i < (planes f n k).length), (planes f n k)[i] = ⟨D3 1 16 128, plane (f (k + i))⟩ := by
  induction n with
  | zero => intro k i h; exact absurd h (Nat.not_lt_zero _)
  | succ n ih =>
    intro k i h
    cases i with
    | zero => rfl
    | succ i =>
      have := ih (k + 1) i (by simpa [planes] using h)
      simp only [planes, List.getElem_cons_succ, this]
      rw [Nat.add_assoc, Nat.add_comm 1 i]

/-- A plane at an index is its component there. -/
theorem plane_apply {F : FTy → Type} [FloatOps F] (x : R16 F) (z : Fin 1) (v : Fin 16) (b : Fin 128) :
    plane x (ix3 z v b) = x (ix2 v b) := by
  refine shapeCast_apply _ _ _ _ ?_
  rw [Shape.rowMajor_val_two, Shape.rowMajor_val_three]
  have : z.val = 0 := by omega
  simp [this]

/-- The `k`-th plane of the stack is the `k`-th component. -/
theorem stack_apply {F : FTy → Type} [FloatOps F] (f : Nat → R16 F) (K1 : Nat) (k : Fin (K1 + 1)) (v : Fin 16)
    (b : Fin 128) : stack f K1 (ix3 k v b) = f k.val (ix2 v b) := by
  cases K1 with
  | zero =>
    have : k.val = 0 := by omega
    rw [this]; exact plane_apply _ _ _ _
  | succ n =>
    have hk : k.val < (planes f (n + 1 + 1) 0).length := by rw [planes_length]; exact k.isLt
    refine (concatenate_apply_piece (0 : Fin 3) (planes f (n + 1 + 1) 0) (planes_concat f _ _ (Nat.le_add_left 2 n))
      (ix3 k v b) k.val hk (D3 1 16 128) (plane (f (0 + k.val))) (planes_get f _ 0 k.val hk) rfl k.val ?_
      (ix3 0 v b) ?_ ?_).trans ?_
    · rw [List.map_take, planes_shapes, List.take_replicate, List.map_replicate, List.sum_replicate,
        Nat.min_eq_left (Nat.le_of_lt k.isLt)]
      simp
    · intro a ha
      match a with
      | ⟨0, _⟩ => exact absurd rfl ha
      | ⟨1, _⟩ => rfl
      | ⟨2, _⟩ => rfl
    · rfl
    · rw [plane_apply, Nat.zero_add]

/-- Column `v * K + k` of a row's contraction is component `k` at `v`. -/
theorem rowW_apply {F : FTy → Type} [FloatOps F] (K1 : Nat) (env : Nat → R16 F) (r : Row) (v : Fin 16)
    (k : Fin (K1 + 1)) (b : Fin 128) (h : v.val * (K1 + 1) + k.val < 16 * (K1 + 1)) :
    rowW K1 env r (ix2 ⟨v.val * (K1 + 1) + k.val, h⟩ b) = colVal env (nthCol r.cols k.val) (ix2 v b) := by
  refine (shapeCast_apply _ _ _ (ix3 v k b) ?_).trans ((transpose_apply _ _ _ _ (ix3 k v b) ?_).trans
    (stack_apply _ _ _ _ _))
  · rw [Shape.rowMajor_val_two, Shape.rowMajor_val_three]; rfl
  · intro a
    match a with
    | ⟨0, _⟩ => rfl
    | ⟨1, _⟩ => rfl
    | ⟨2, _⟩ => rfl

/-- A contribution is the product of its factors. -/
theorem contrib_apply (K1 : Nat) (x : R16 Ideal) (w : FVec Ideal (D2 (16 * (K1 + 1)) 128) .f32) (u : Fin 16)
    (n : Fin (16 * (K1 + 1))) (b : Fin 128) : contrib K1 x w (ix3 u n b) = x (ix2 u b) * w (ix2 n b) := by
  have hn : 16 * (K1 + 1) ≠ 1 := by omega
  refine congrArg₂ (fun a b : EReal => a * b)
    ((broadcastTo_apply _ _ _ (ix3 u 0 b) ?_).trans (shapeCast_apply _ _ _ (ix2 u b) ?_))
    ((broadcastTo_apply _ _ _ (ix3 0 n b) ?_).trans (shapeCast_apply _ _ _ (ix2 n b) ?_))
  · intro a
    match a with
    | ⟨0, _⟩ => rfl
    | ⟨1, _⟩ => rfl
    | ⟨2, _⟩ => rfl
  · rw [Shape.rowMajor_val_two, Shape.rowMajor_val_three]; simp
  · intro a
    match a with
    | ⟨0, _⟩ => rfl
    | ⟨1, _⟩ => exact (if_neg hn).symm
    | ⟨2, _⟩ => rfl
  · rw [Shape.rowMajor_val_two, Shape.rowMajor_val_three]; simp

/-! ## The segment -/

/-- A running sum of contributions, at an index. -/
theorem accFrom_apply (X1 X2 : FVec Ideal (D2 400 128) .f32) (o1 o2 K1 : Nat)
    (y : (D3 16 (16 * (K1 + 1)) 128).Idx) (rs : List Row) :
    ∀ i acc, accFrom X1 X2 o1 o2 K1 i acc rs y = acc y + rowsSum (fun i r => rowVal X1 X2 o1 o2 K1 i r y) i rs := by
  induction rs with
  | nil => intro i acc; exact (add_zero _).symm
  | cons r rs ih =>
    intro i acc
    simp only [accFrom, rowsSum]
    rw [ih]
    exact add_assoc _ _ _

/-- What a segment stores at batch row `b` and column `u * 16 * K + n` is the sum there. -/
theorem segOut_apply {F : FTy → Type} [FloatOps F] (K1 : Nat) (acc : FVec F (D3 16 (16 * (K1 + 1)) 128) .f32)
    (b : Fin 128) (u : Fin 16) (n : Fin (16 * (K1 + 1))) (h : u.val * (16 * (K1 + 1)) + n.val < 256 * (K1 + 1)) :
    segOut K1 acc (ix2 b ⟨u.val * (16 * (K1 + 1)) + n.val, h⟩) = acc (ix3 u n b) := by
  refine (shapeCast_apply _ _ _ (ix2 b ⟨_, h⟩) rfl).trans
    ((transpose_apply _ _ _ _ (ix2 ⟨_, h⟩ b) ?_).trans (shapeCast_apply _ _ _ (ix3 u n b) ?_))
  · intro a
    match a with
    | ⟨0, _⟩ => rfl
    | ⟨1, _⟩ => rfl
  · rw [Shape.rowMajor_val_two, Shape.rowMajor_val_three]; rfl

/-- A row of a transposed input, read at batch row `b`. -/
def rowAt (X : FVec Ideal (D2 400 128) .f32) (b : Fin 128) (r : Nat) : EReal :=
  X (ix2 ⟨r % 400, Nat.mod_lt _ (by decide)⟩ b)

/-- Sums over rows of equal terms are equal. -/
theorem rowsSum_congr {g g' : Nat → Row → EReal} (h : ∀ i r, g i r = g' i r) (rs : List Row) :
    ∀ i, rowsSum g i rs = rowsSum g' i rs := by
  induction rs with
  | nil => intro i; rfl
  | cons r rs ih => intro i; simp only [rowsSum, h, ih]

/-- An entry of a segment, as sums. -/
theorem segVal_apply (X1 X2 : FVec Ideal (D2 400 128) .f32) (S : Seg) (b : Fin 128) (u v : Fin 16) (k : Fin (S.K1 + 1))
    (h : u.val * (16 * (S.K1 + 1)) + (v.val * (S.K1 + 1) + k.val) < 256 * (S.K1 + 1)) :
    segVal X1 X2 S (ix2 b ⟨u.val * (16 * (S.K1 + 1)) + (v.val * (S.K1 + 1) + k.val), h⟩) =
      rowsSum (fun i r => rowAt X1 b (S.o1 + 16 * i + u.val) *
        colSum (fun j => rowAt X2 b (S.o2 + 16 * j + v.val)) (nthCol r.cols k.val)) 0 (S.row0 :: S.rows) := by
  have hn : v.val * (S.K1 + 1) + k.val < 16 * (S.K1 + 1) := by
    have := Nat.mul_le_mul_right (S.K1 + 1) (show v.val + 1 ≤ 16 from v.isLt)
    rw [Nat.add_mul, Nat.one_mul] at this
    have := k.isLt
    omega
  have hr : ∀ i r, rowVal X1 X2 S.o1 S.o2 S.K1 i r (ix3 u ⟨_, hn⟩ b) = rowAt X1 b (S.o1 + 16 * i + u.val) *
      colSum (fun j => rowAt X2 b (S.o2 + 16 * j + v.val)) (nthCol r.cols k.val) := fun i r =>
    (contrib_apply _ _ _ _ _ _).trans (congrArg₂ (fun a b : EReal => a * b) rfl
      ((rowW_apply _ _ _ _ _ _ hn).trans (colVal_apply _ _ _)))
  refine (segOut_apply S.K1 _ b u ⟨_, hn⟩ h).trans ((accFrom_apply _ _ _ _ _ _ _ _ _).trans ?_)
  rw [hr, rowsSum_congr hr]
  rfl

/-! ## The inputs -/

/-- Component `i` of copy `u` of an irrep stands at `16 * i + u` in the buffers and at `u * d + i` in the input. -/
theorem srcRow_irrep : ∀ p ∈ [(0, 1), (16, 3), (64, 5), (144, 7), (256, 9)], ∀ i < p.2, ∀ u < 16,
    srcRow (p.1 + 16 * i + u) = p.1 + (u * p.2 + i) ∧ p.1 + 16 * i + u < 400 ∧ p.1 + (u * p.2 + i) < 400 := by
  decide +kernel

/-- A number of an input of the kernel, at batch row `b`. -/
def inAt (x : FVec Ideal (D2 128 400) .f32) (b : Fin 128) (r : Nat) : EReal :=
  x (ix2 b ⟨r % 400, Nat.mod_lt _ (by decide)⟩)

/-- A row of the buffers, in the input. -/
theorem rowAt_permuted (x : FVec Ideal (D2 128 400) .f32) (b : Fin 128) {o d i u : Nat}
    (ho : (o, d) ∈ [(0, 1), (16, 3), (64, 5), (144, 7), (256, 9)]) (hi : i < d) (hu : u < 16) :
    rowAt (permuted (transpose (D2 400 128) [1, 0] x (transposes2 _ _))) b (o + 16 * i + u) =
      inAt x b (o + (u * d + i)) := by
  obtain ⟨h1, h2, h3⟩ := srcRow_irrep _ ho i hi u hu
  have h1 : srcRow (o + 16 * i + u) = o + (u * d + i) := h1
  have h2 : o + 16 * i + u < 400 := h2
  refine (transpose_apply _ _ _ _ (ix2 b ⟨(o + (u * d + i)) % 400, Nat.mod_lt _ (by decide)⟩) ?_)
  intro a
  match a with
  | ⟨0, _⟩ =>
    show (o + (u * d + i)) % 400 = srcRow ((o + 16 * i + u) % 400) % 400
    rw [Nat.mod_eq_of_lt h2, h1]
  | ⟨1, _⟩ => rfl

end TP
-- ==== Proof.RefSum.lean ====
/-
  The reference's segments over the extended reals: a segment is two contractions laid out as columns, and an entry of it
  is the sum over the first irrep of the sum over the second. Beside them, segments laid side by side, read at a column.
-/
module

public import proofs.«01_k».proof.Proof.KernelSum
public import Idealize.ShloMosaic.Lib.Pointwise.Contract

@[expose] public section

noncomputable section

namespace TP

open Idealize.ShloMosaic Idealize.SL.Sem

/-! ## A segment of the reference -/

/-- A shape of four axes. -/
abbrev D4 (a b c d : Nat) : Shape := ⟨4, ![a, b, c, d]⟩

/-- An index of four axes from its coordinates. -/
def ix4 {a b c d : Nat} (x : Fin a) (y : Fin b) (z : Fin c) (w : Fin d) : (D4 a b c d).Idx :=
  Fin.cons x (Fin.cons y (Fin.cons z (Fin.cons w fun t => t.elim0)))

/-- Two indices of four axes with the same coordinates are the same. -/
theorem ext4 {a b c d : Nat} {i j : (D4 a b c d).Idx} (h0 : (i 0).val = (j 0).val) (h1 : (i 1).val = (j 1).val)
    (h2 : (i 2).val = (j 2).val) (h3 : (i 3).val = (j 3).val) : i = j := by
  funext t
  apply Fin.ext
  match t with
  | ⟨0, _⟩ => exact h0
  | ⟨1, _⟩ => exact h1
  | ⟨2, _⟩ => exact h2
  | ⟨3, _⟩ => exact h3

/-- A reshape of four axes to two. -/
theorem casts42 {a b c d e f : Nat} (h : e * f = a * (b * (c * d))) : (D4 a b c d).ShapeCasts (D2 e f) := by
  simpa [Shape.ShapeCasts, Shape.numel, Fin.prod_univ_succ] using h

/-- An irrep is a slice of its input. -/
theorem slices2 {o c : Nat} (h : o + c ≤ 400) : (D2 128 400).Slices ![0, o] (D2 128 c) := ⟨rfl, inb2 le_rfl h⟩

/-- The contraction of the second input with a table: `x2[b, v, j] * C[i, j, k]` summed over `j`. -/
abbrev dotJ (I J K : Nat) : DotDims (D3 128 16 J) (D3 I J K) (D4 128 16 I K) where
  lhsContracting := [2]
  rhsContracting := [1]
  lhsNonContracting := [0, 1]
  rhsNonContracting := [0, 2]
  lhsBatch := []
  rhsBatch := []
  wf := ⟨rfl, by simp, rfl, by simp, by simp, by simp, by simp [List.finRange], by
    simpa [List.finRange] using List.Perm.cons 0 (List.Perm.swap 1 2 []), rfl, by simp, fun b => by fin_cases b <;> rfl⟩

/-- The contraction of the first input with that: `x1[b, u, i] * y[b, v, i, k]` summed over `i`. -/
abbrev dotI (I K : Nat) : DotDims (D3 128 16 I) (D4 128 16 I K) (D4 128 16 16 K) where
  lhsContracting := [2]
  rhsContracting := [2]
  lhsNonContracting := [1]
  rhsNonContracting := [1, 3]
  lhsBatch := [0]
  rhsBatch := [0]
  wf := ⟨rfl, by simp, rfl, by simp, by simp, by simp, by simp [List.finRange], by
    simpa [List.finRange] using List.Perm.cons 0 (List.Perm.cons 1 (List.Perm.swap 2 3 [])), rfl, by simp,
    fun b => by fin_cases b <;> rfl⟩

/-- An irrep of an input, `d` components of sixteen copies from column `o` on. -/
abbrev irrep (d o : Nat) (h : o + 16 * d ≤ 400) (x : FVec Ideal (D2 128 400) .f32) : FVec Ideal (D3 128 16 d) .f32 :=
  shapeCast (D3 128 16 d) (extractStridedSlice (D2 128 (16 * d)) ![0, o] x (slices2 h)) (casts23 rfl)

/-- A segment of the reference: the sizes of the three irreps, where the first two start in their inputs, and the bit
    patterns of the table. -/
structure RSeg where
  I : Nat
  J : Nat
  K : Nat
  o1 : Nat
  o2 : Nat
  N : Nat
  lit : Fin N → BitVec 32
  hN : (D3 I J K).numel = N := by decide
  h1 : o1 + 16 * I ≤ 400 := by decide
  h2 : o2 + 16 * J ≤ 400 := by decide

/-- The table of a segment. -/
abbrev RSeg.table (R : RSeg) : FVec Ideal (D3 R.I R.J R.K) .f32 :=
  fun i => FloatOps.ofBits .f32 (R.lit (((D3 R.I R.J R.K).rowMajor i).cast R.hN))

/-- The value of a segment. -/
abbrev RSeg.val (R : RSeg) (x y : FVec Ideal (D2 128 400) .f32) : FVec Ideal (D2 128 (256 * R.K)) .f32 :=
  shapeCast (D2 128 (256 * R.K))
    (Host.dotGeneral (dotI R.I R.K) none (irrep R.I R.o1 R.h1 x)
      (Host.dotGeneral (dotJ R.I R.J R.K) none (irrep R.J R.o2 R.h2 y) R.table))
    (casts42 (by rw [← Nat.mul_assoc 16 16]))

/-- A component of a copy of an irrep is a number of the input. -/
theorem irrep_apply (d o : Nat) (h : o + 16 * d ≤ 400) (x : FVec Ideal (D2 128 400) .f32) (b : Fin 128) (u : Fin 16)
    (i : Fin d) : irrep d o h x (ix3 b u i) = inAt x b (o + (u.val * d + i.val)) := by
  have hu : u.val * d + i.val < 16 * d := by
    have := Nat.mul_le_mul_right d (show u.val + 1 ≤ 16 from u.isLt)
    rw [Nat.add_mul, Nat.one_mul] at this
    have := i.isLt
    omega
  refine (shapeCast_apply _ _ _ (ix2 b ⟨u.val * d + i.val, hu⟩) ?_).trans
    (extractStridedSlice_apply _ _ _ _ (ix2 b ⟨(o + (u.val * d + i.val)) % 400, Nat.mod_lt _ (by decide)⟩) ?_)
  · rw [Shape.rowMajor_val_two, Shape.rowMajor_val_three]
    show b.val * (16 * d) + (u.val * d + i.val) = (b.val * 16 + u.val) * d + i.val
    rw [Nat.add_mul, Nat.mul_assoc, Nat.add_assoc]
  · intro a
    match a with
    | ⟨0, _⟩ => exact (Nat.zero_add _).symm
    | ⟨1, _⟩ => exact Nat.mod_eq_of_lt (by omega)

/-- The inner contraction at an index. -/
theorem dotJ_apply (I J K : Nat) (x : FVec Ideal (D3 128 16 J) .f32) (C : FVec Ideal (D3 I J K) .f32) (b : Fin 128)
    (v : Fin 16) (i : Fin I) (k : Fin K) :
    Host.dotGeneral (dotJ I J K) none x C (ix4 b v i k) = ∑ j : Fin J, x (ix3 b v j) * C (ix3 i j k) := by
  refine (Ideal.dotGeneral_apply _ _ _ _ _ _).trans (((dotJ I J K).sum_contr₁ (a := 2) rfl (K := J) rfl _).trans ?_)
  refine Finset.sum_congr rfl fun j _ => congrArg₂ (fun a b : EReal => a * b) (congrArg x ?_) (congrArg C ?_)
  · exact ext3 rfl rfl rfl
  · exact ext3 rfl rfl rfl

/-- The outer contraction at an index. -/
theorem dotI_apply (I K : Nat) (x : FVec Ideal (D3 128 16 I) .f32) (y : FVec Ideal (D4 128 16 I K) .f32) (b : Fin 128)
    (u v : Fin 16) (k : Fin K) :
    Host.dotGeneral (dotI I K) none x y (ix4 b u v k) = ∑ i : Fin I, x (ix3 b u i) * y (ix4 b v i k) := by
  refine (Ideal.dotGeneral_apply _ _ _ _ _ _).trans (((dotI I K).sum_contr₁ (a := 2) rfl (K := I) rfl _).trans ?_)
  refine Finset.sum_congr rfl fun j _ => congrArg₂ (fun a b : EReal => a * b) (congrArg x ?_) (congrArg y ?_)
  · exact ext3 rfl rfl rfl
  · exact ext4 rfl rfl rfl rfl

/-- An entry of a segment of the reference, as sums. -/
theorem RSeg.val_apply (R : RSeg) (x y : FVec Ideal (D2 128 400) .f32) (b : Fin 128) (u v : Fin 16) (k : Fin R.K)
    (h : u.val * (16 * R.K) + (v.val * R.K + k.val) < 256 * R.K) :
    R.val x y (ix2 b ⟨u.val * (16 * R.K) + (v.val * R.K + k.val), h⟩) =
      ∑ i : Fin R.I, inAt x b (R.o1 + (u.val * R.I + i.val)) *
        ∑ j : Fin R.J, inAt y b (R.o2 + (v.val * R.J + j.val)) *
          Ideal.ofBits .f32 (R.lit (((D3 R.I R.J R.K).rowMajor (ix3 i j k)).cast R.hN)) := by
  refine (shapeCast_apply _ _ _ (ix4 b u v k) ?_).trans ((dotI_apply _ _ _ _ _ _ _ _).trans
    (Finset.sum_congr rfl fun i _ => congrArg₂ (fun a b : EReal => a * b) (irrep_apply _ _ _ _ _ _ _)
      ((dotJ_apply _ _ _ _ _ _ _ _ _).trans
        (Finset.sum_congr rfl fun j _ => congrArg₂ (fun a b : EReal => a * b) (irrep_apply _ _ _ _ _ _ _) rfl))))
  rw [Shape.rowMajor_val_two, Shape.rowMajor_val_four]
  show ((b.val * 16 + u.val) * 16 + v.val) * R.K + k.val = b.val * (256 * R.K) + (u.val * (16 * R.K) + (v.val * R.K + k.val))
  ring

/-! ## Pieces side by side -/

/-- A piece of the output: so many columns. -/
abbrev Piece := (w : Nat) × FVec Ideal (D2 128 w) .f32

/-- Pieces as the operands of a concatenation. -/
abbrev pieces (Ps : List Piece) : List ((s : Shape) × (s.Idx → Ideal .f32)) := Ps.map fun P => ⟨D2 128 P.1, P.2⟩

/-- The width of some pieces. -/
def widthP : List Piece → Nat
  | [] => 0
  | P :: Ps => P.1 + widthP Ps

/-- Column `x` of some pieces. -/
def colAt : List Piece → Fin 128 → Nat → EReal
  | [], _, _ => 0
  | P :: Ps, b, x => if h : x < P.1 then P.2 (ix2 b ⟨x, h⟩) else colAt Ps b (x - P.1)

/-- A column of the first piece. -/
theorem colAt_in (P : Piece) (Ps : List Piece) (b : Fin 128) (x : Nat) (h : x < P.1) :
    colAt (P :: Ps) b x = P.2 (ix2 b ⟨x, h⟩) := dif_pos h

/-- A column past the first piece. -/
theorem colAt_out (P : Piece) (Ps : List Piece) (b : Fin 128) (x : Nat) (h : ¬ x < P.1) :
    colAt (P :: Ps) b x = colAt Ps b (x - P.1) := dif_neg h

/-- The widths of some pieces, summed as a concatenation sums them. -/
theorem pieces_sum (Ps : List Piece) :
    (((pieces Ps).map (·.1)).map fun s => if h : s.rank = 2 then s.size ((1 : Fin 2).cast h.symm) else 0).sum =
      widthP Ps := by
  induction Ps with
  | nil => rfl
  | cons P Ps ih =>
    simp only [pieces, List.map_cons, List.sum_cons, widthP] at ih ⊢
    rw [ih]; rfl

/-- A column of some pieces lies in one of them. -/
theorem colAt_piece (Ps : List Piece) (b : Fin 128) : ∀ x, x < widthP Ps → ∃ k, ∃ hk : k < Ps.length,
    ∃ y, ∃ hy : y < Ps[k].1, widthP (Ps.take k) + y = x ∧ colAt Ps b x = Ps[k].2 (ix2 b ⟨y, hy⟩) := by
  induction Ps with
  | nil => intro x hx; exact absurd hx (Nat.not_lt_zero _)
  | cons P Ps ih =>
    intro x hx
    by_cases h : x < P.1
    · exact ⟨0, Nat.succ_pos _, x, h, Nat.zero_add _, dif_pos h⟩
    · obtain ⟨k, hk, y, hy, h1, h2⟩ := ih (x - P.1) (by simp only [widthP] at hx; omega)
      refine ⟨k + 1, Nat.succ_lt_succ hk, y, hy, ?_, (dif_neg h).trans h2⟩
      simp only [List.take_succ_cons, widthP]; omega

/-- A concatenation of pieces, read at a column. -/
theorem concatenate_pieces (W : Nat) (Ps : List Piece)
    (h : Shape.Concatenates ((pieces Ps).map (·.1)) (D2 128 W) 1) (b : Fin 128) (x : Fin W) :
    concatenate (D2 128 W) 1 (pieces Ps) h (ix2 b x) = colAt Ps b x.val := by
  have hW : widthP Ps = W := (pieces_sum Ps).symm.trans h.2.2
  obtain ⟨k, hk, y, hy, h1, h2⟩ := colAt_piece Ps b x.val (by rw [hW]; exact x.isLt)
  rw [h2]
  refine concatenate_apply_piece (1 : Fin 2) (pieces Ps) h (ix2 b x) k (by simpa [pieces] using hk) (D2 128 Ps[k].1)
    Ps[k].2 (by simp [pieces]) rfl (widthP (Ps.take k)) ?_ (ix2 b ⟨y, hy⟩) ?_ ?_
  · rw [← pieces_sum]; simp only [pieces, List.map_take]
  · intro a ha
    match a with
    | ⟨0, _⟩ => rfl
    | ⟨1, _⟩ => exact absurd rfl ha
  · exact h1

/-- The columns of pieces that others follow. -/
theorem colAt_left (Ps Qs : List Piece) (b : Fin 128) : ∀ x, x < widthP Ps → colAt (Ps ++ Qs) b x = colAt Ps b x := by
  induction Ps with
  | nil => intro x h; exact absurd h (Nat.not_lt_zero _)
  | cons P Ps ih =>
    intro x hx
    by_cases h : x < P.1
    · exact (colAt_in P (Ps ++ Qs) b x h).trans (colAt_in P Ps b x h).symm
    · exact (colAt_out P (Ps ++ Qs) b x h).trans ((ih _ (by simp only [widthP] at hx; omega)).trans (colAt_out P Ps b x h).symm)

/-- The columns of the pieces that follow. -/
theorem colAt_right (Ps Qs : List Piece) (b : Fin 128) :
    ∀ x, widthP Ps ≤ x → colAt (Ps ++ Qs) b x = colAt Qs b (x - widthP Ps) := by
  induction Ps with
  | nil => intro x _; rfl
  | cons P Ps ih =>
    intro x hx
    simp only [widthP] at hx
    refine (dif_neg (by omega)).trans ((ih _ (by omega)).trans ?_)
    simp only [widthP]; rw [Nat.sub_add_eq]

/-- Two lists of pieces of the same widths, alike column by column. -/
def Alike : List Piece → List (List Piece) → Prop
  | [], [] => True
  | P :: Ps, G :: Gs => (P.1 = widthP G ∧ ∀ b (x : Fin P.1), P.2 (ix2 b x) = colAt G b x.val) ∧ Alike Ps Gs
  | _, _ => False

/-- Pieces each made of pieces are those pieces laid side by side. -/
theorem colAt_flatten (Ps : List Piece) : ∀ (Gs : List (List Piece)), Alike Ps Gs →
    ∀ b x, colAt Ps b x = colAt Gs.flatten b x := by
  induction Ps with
  | nil =>
    intro Gs h b x
    cases Gs with
    | nil => rfl
    | cons G Gs => exact h.elim
  | cons P Ps ih =>
    intro Gs h b x
    cases Gs with
    | nil => exact h.elim
    | cons G Gs =>
      by_cases hx : x < P.1
      · exact (dif_pos hx).trans ((h.1.2 b ⟨x, hx⟩).trans (colAt_left _ _ b x (h.1.1 ▸ hx)).symm)
      · refine (dif_neg hx).trans ((ih Gs h.2 b _).trans ?_)
        rw [List.flatten_cons, colAt_right G _ b x (h.1.1 ▸ Nat.le_of_not_lt hx), ← h.1.1]

end TP
-- ==== Proof.Match.lean ====
/-
  When a segment of the kernel's table and a segment of the reference's tables are one segment: a check of the two, and
  that segments which pass it have the same entries.
-/
module

public import proofs.«01_k».proof.Proof.RefSum

@[expose] public section

noncomputable section

namespace TP

open Idealize.ShloMosaic Idealize.SL.Sem

/-! ## The check -/

/-- The `n`-th bit pattern of a table. -/
def litNat {N : Nat} (lit : Fin N → BitVec 32) (n : Nat) : Nat := if h : n < N then (lit ⟨n, h⟩).toNat else 0

/-- A bit pattern of zero, positive or negative. -/
def isZero (w : Nat) : Bool := Nat.beq w 0 || Nat.beq w 2147483648

/-- The `n` bit patterns `w j, w (j + 1), …` are those of a list of terms, and zero where the list has none. -/
def colMatch (w : Nat → Nat) : Nat → Nat → List (Nat × Nat) → Bool
  | 0, _, c => c.isEmpty
  | n + 1, j, [] => isZero (w j) && colMatch w n (j + 1) []
  | n + 1, j, e :: c => bif Nat.beq e.1 j then Nat.beq (w j) e.2 && colMatch w n (j + 1) c
      else isZero (w j) && colMatch w n (j + 1) (e :: c)

/-- The rows from the `i`-th on, `n` of them, hold the table's numbers. -/
def rowsMatch (J K : Nat) (w : Nat → Nat) : Nat → Nat → List Row → Bool
  | 0, _, rs => rs.isEmpty
  | n + 1, i, [] => false
  | n + 1, i, r :: rs => (List.range K).all (fun k => colMatch (fun j => w ((i * J + j) * K + k)) J 0 (nthCol r.cols k)) &&
      rowsMatch J K w n (i + 1) rs

/-- So many components are those of an irrep starting there. -/
def irrepOk (o d : Nat) : Bool :=
  [(0, 1), (16, 3), (64, 5), (144, 7), (256, 9)].any fun p => Nat.beq p.1 o && Nat.beq p.2 d

/-- The two segments are one. -/
def segMatch (S : Seg) (R : RSeg) : Bool :=
  Nat.beq S.o1 R.o1 && Nat.beq S.o2 R.o2 && Nat.beq (S.K1 + 1) R.K && irrepOk R.o1 R.I && irrepOk R.o2 R.J &&
    rowsMatch R.J R.K (litNat R.lit) R.I 0 (S.row0 :: S.rows)

/-- The segments of two lists are one and the same, in order. -/
def segsMatch : List Seg → List RSeg → Bool
  | [], [] => true
  | S :: Ss, R :: Rs => segMatch S R && segsMatch Ss Rs
  | _, _ => false

/-! ## What it says -/

/-- Either zero stands for zero. -/
theorem num_zero {w : Nat} (h : isZero w = true) : num w = 0 := by
  simp only [isZero, Bool.or_eq_true] at h
  rcases h with h | h
  · rw [Nat.eq_of_beq_eq_true h]; exact Ideal.ofBits_zero_f32
  · rw [Nat.eq_of_beq_eq_true h]; simp [num, Ideal.ofBits, Ideal.ieee]

/-- The sum of `g j, g (j + 1), …`, `n` of them. -/
def sumFrom (g : Nat → EReal) : Nat → Nat → EReal
  | 0, _ => 0
  | n + 1, j => g j + sumFrom g n (j + 1)

/-- A sum that starts one later is the sum of the shifted terms. -/
theorem sumFrom_shift (g : Nat → EReal) (n : Nat) : ∀ j, sumFrom g n (j + 1) = sumFrom (fun i => g (i + 1)) n j := by
  induction n with
  | zero => intro j; rfl
  | succ n ih => intro j; simp only [sumFrom]; rw [ih]

/-- A sum over the numbers below `n`, term after term. -/
theorem sum_fin (n : Nat) : ∀ g : Nat → EReal, ∑ j : Fin n, g j.val = sumFrom g n 0 := by
  induction n with
  | zero => intro g; rfl
  | succ n ih =>
    intro g
    rw [Fin.sum_univ_succ]
    simp only [sumFrom]
    rw [Nat.zero_add, show sumFrom g n 1 = sumFrom (fun i => g (i + 1)) n 0 from sumFrom_shift g n 0, ← ih]
    rfl

/-- The terms of a list are the table's, the zeros left out. -/
theorem colMatch_sum (f : Nat → EReal) (w : Nat → Nat) (n : Nat) : ∀ j c, colMatch w n j c = true →
    colSum f c = sumFrom (fun j => f j * num (w j)) n j := by
  induction n with
  | zero =>
    intro j c h
    cases c with
    | nil => rfl
    | cons e c => exact absurd h (by simp [colMatch])
  | succ n ih =>
    intro j c h
    cases c with
    | nil =>
      simp only [colMatch, Bool.and_eq_true] at h
      simp only [sumFrom]
      rw [num_zero h.1, mul_zero, zero_add]
      exact ih _ _ h.2
    | cons e c =>
      by_cases he : Nat.beq e.1 j = true
      · simp only [colMatch, he, cond_true, Bool.and_eq_true] at h
        simp only [sumFrom]
        rw [← ih _ _ h.2, Nat.eq_of_beq_eq_true h.1, ← Nat.eq_of_beq_eq_true he]
        rfl
      · have he : Nat.beq e.1 j = false := Bool.eq_false_iff.2 he
        simp only [colMatch, he, cond_false, Bool.and_eq_true] at h
        simp only [sumFrom]
        rw [num_zero h.1, mul_zero, zero_add]
        exact ih _ _ h.2

/-- The rows are the table's. -/
theorem rowsMatch_sum (f1 f2 : Nat → EReal) (J K k : Nat) (hk : k < K) (w : Nat → Nat) (n : Nat) :
    ∀ i rs, rowsMatch J K w n i rs = true →
      rowsSum (fun i r => f1 i * colSum f2 (nthCol r.cols k)) i rs =
        sumFrom (fun i => f1 i * sumFrom (fun j => f2 j * num (w ((i * J + j) * K + k))) J 0) n i := by
  induction n with
  | zero =>
    intro i rs h
    cases rs with
    | nil => rfl
    | cons r rs => exact absurd h (by simp [rowsMatch])
  | succ n ih =>
    intro i rs h
    cases rs with
    | nil => exact absurd h (by simp [rowsMatch])
    | cons r rs =>
      simp only [rowsMatch, Bool.and_eq_true] at h
      simp only [rowsSum, sumFrom]
      rw [ih _ _ h.2, colMatch_sum f2 _ J 0 _ (List.all_eq_true.1 h.1 k (List.mem_range.2 hk))]

/-- Lists that match on their first segments and on the others match. -/
theorem segsMatch_split (G H : List RSeg) : ∀ (n : Nat) (Ss : List Seg), segsMatch (Ss.take n) G = true →
    segsMatch (Ss.drop n) H = true → segsMatch Ss (G ++ H) = true := by
  induction G with
  | nil =>
    intro n Ss h1 h2
    cases n with
    | zero => exact h2
    | succ n =>
      cases Ss with
      | nil => exact h2
      | cons S Ss => exact absurd h1 (by simp [segsMatch])
  | cons R G ih =>
    intro n Ss h1 h2
    cases n with
    | zero => exact absurd h1 (by simp [segsMatch])
    | succ n =>
      cases Ss with
      | nil => exact absurd h1 (by simp [segsMatch])
      | cons S Ss =>
        simp only [List.take_succ_cons, segsMatch, Bool.and_eq_true] at h1
        simp only [List.cons_append, segsMatch, Bool.and_eq_true]
        exact ⟨h1.1, ih n Ss h1.2 h2⟩

/-- What the check of an irrep says. -/
theorem irrepOk_mem {o d : Nat} (h : irrepOk o d = true) : (o, d) ∈ [(0, 1), (16, 3), (64, 5), (144, 7), (256, 9)] := by
  obtain ⟨p, hp, h⟩ := List.any_eq_true.1 h
  rw [Bool.and_eq_true] at h
  obtain ⟨a, b⟩ := p
  have h1 : a = o := Nat.eq_of_beq_eq_true h.1
  have h2 : b = d := Nat.eq_of_beq_eq_true h.2
  subst h1; subst h2; exact hp

/-- The numbers of a table, from their places. -/
theorem lit_num (R : RSeg) (i : Fin R.I) (j : Fin R.J) (k : Fin R.K) :
    Ideal.ofBits .f32 (R.lit (((D3 R.I R.J R.K).rowMajor (ix3 i j k)).cast R.hN)) =
      num (litNat R.lit ((i.val * R.J + j.val) * R.K + k.val)) := by
  have hr : ((D3 R.I R.J R.K).rowMajor (ix3 i j k)).val = (i.val * R.J + j.val) * R.K + k.val :=
    Shape.rowMajor_val_three _
  have hlt : (i.val * R.J + j.val) * R.K + k.val < R.N :=
    hr ▸ (((D3 R.I R.J R.K).rowMajor (ix3 i j k)).cast R.hN).isLt
  have hi : ((D3 R.I R.J R.K).rowMajor (ix3 i j k)).cast R.hN = ⟨_, hlt⟩ := Fin.ext hr
  rw [hi]
  simp only [litNat, dif_pos hlt, num]
  rw [BitVec.ofNat_toNat, BitVec.setWidth_eq]

/-- Two segments that are one have the same value. -/
theorem segVal_eq (x y : FVec Ideal (D2 128 400) .f32) (S : Seg) (R : RSeg) (h : segMatch S R = true) (b : Fin 128)
    (n : Nat) (hn : n < 256 * (S.K1 + 1)) (hn' : n < 256 * R.K) :
    segVal (permuted (transpose (D2 400 128) [1, 0] x (transposes2 _ _)))
      (permuted (transpose (D2 400 128) [1, 0] y (transposes2 _ _))) S (ix2 b ⟨n, hn⟩) = R.val x y (ix2 b ⟨n, hn'⟩) := by
  obtain ⟨o1, o2, K1, row0, rows⟩ := S
  obtain ⟨I, J, K, p1, p2, N, lit, hN, h1, h2⟩ := R
  simp only [segMatch, Bool.and_eq_true] at h
  obtain ⟨⟨⟨⟨⟨e1, e2⟩, e3⟩, ho1⟩, ho2⟩, hm⟩ := h
  have e1 := Nat.eq_of_beq_eq_true e1
  have e2 := Nat.eq_of_beq_eq_true e2
  have e3 := Nat.eq_of_beq_eq_true e3
  subst e1; subst e2; subst e3
  -- the column as copy `u`, copy `v` and component `k`
  have hK : 0 < K1 + 1 := Nat.succ_pos _
  have hu : n / (16 * (K1 + 1)) < 16 := by
    rw [Nat.div_lt_iff_lt_mul (by omega)]; calc n < 256 * (K1 + 1) := hn
      _ = 16 * (16 * (K1 + 1)) := by ring
  have hm16 : n % (16 * (K1 + 1)) < 16 * (K1 + 1) := Nat.mod_lt _ (by omega)
  have hv : n % (16 * (K1 + 1)) / (K1 + 1) < 16 := by rwa [Nat.div_lt_iff_lt_mul hK]
  have hk : n % (16 * (K1 + 1)) % (K1 + 1) < K1 + 1 := Nat.mod_lt _ hK
  have hsplit : n / (16 * (K1 + 1)) * (16 * (K1 + 1)) +
      (n % (16 * (K1 + 1)) / (K1 + 1) * (K1 + 1) + n % (16 * (K1 + 1)) % (K1 + 1)) = n := by
    rw [Nat.div_add_mod', Nat.div_add_mod']
  revert hn hn'
  generalize n / (16 * (K1 + 1)) = u at hu hsplit
  generalize n % (16 * (K1 + 1)) / (K1 + 1) = v at hv hsplit
  generalize n % (16 * (K1 + 1)) % (K1 + 1) = k at hk hsplit
  subst hsplit
  intro hn hn'
  refine (segVal_apply _ _ ⟨o1, o2, K1, row0, rows⟩ b ⟨u, hu⟩ ⟨v, hv⟩ ⟨k, hk⟩ hn).trans
    (Eq.trans ?_ (RSeg.val_apply ⟨I, J, K1 + 1, o1, o2, N, lit, hN, h1, h2⟩ x y b ⟨u, hu⟩ ⟨v, hv⟩ ⟨k, hk⟩ hn').symm)
  refine (rowsMatch_sum _ _ J (K1 + 1) k hk (litNat lit) I 0 (row0 :: rows) hm).trans ?_
  rw [← sum_fin]
  refine Finset.sum_congr rfl fun i _ => congrArg₂ (fun a b : EReal => a * b)
    (rowAt_permuted x b (irrepOk_mem ho1) i.isLt hu) ?_
  rw [← sum_fin]
  refine Finset.sum_congr rfl fun j _ => congrArg₂ (fun a b : EReal => a * b)
    (rowAt_permuted y b (irrepOk_mem ho2) j.isLt hv) ?_
  exact (lit_num ⟨I, J, K1 + 1, o1, o2, N, lit, hN, h1, h2⟩ i j ⟨k, hk⟩).symm

/-- A segment of the reference as a piece of its output. -/
abbrev RSeg.piece (x y : FVec Ideal (D2 128 400) .f32) (R : RSeg) : Piece := ⟨256 * R.K, R.val x y⟩

/-- Segments that are the same, laid side by side, are the same in every column. -/
theorem outVal_eq (x y : FVec Ideal (D2 128 400) .f32) (b : Fin 128) (Ss : List Seg) : ∀ (Rs : List RSeg),
    segsMatch Ss Rs = true → ∀ n,
    outVal (permuted (transpose (D2 400 128) [1, 0] x (transposes2 _ _)))
      (permuted (transpose (D2 400 128) [1, 0] y (transposes2 _ _))) Ss b n = colAt (Rs.map (RSeg.piece x y)) b n := by
  induction Ss with
  | nil =>
    intro Rs h n
    cases Rs with
    | nil => exact Ideal.ofBits_zero_f32
    | cons R Rs => exact absurd h (by simp [segsMatch])
  | cons S Ss ih =>
    intro Rs h n
    cases Rs with
    | nil => exact absurd h (by simp [segsMatch])
    | cons R Rs =>
      simp only [segsMatch, Bool.and_eq_true] at h
      have hK : S.K1 + 1 = R.K := by
        have h := h.1
        simp only [segMatch, Bool.and_eq_true] at h
        exact Nat.eq_of_beq_eq_true h.1.1.1.2
      by_cases hn : n < 256 * (S.K1 + 1)
      · have hn' : n < 256 * R.K := hK ▸ hn
        exact (dif_pos hn).trans ((segVal_eq x y S R h.1 b n hn hn').trans (colAt_in (R.piece x y) _ b n hn').symm)
      · have hn' : ¬ n < 256 * R.K := hK ▸ hn
        refine (dif_neg hn).trans ((ih Rs h.2 _).trans ?_)
        rw [hK]
        exact (colAt_out (R.piece x y) _ b n hn').symm

end TP
-- ==== Proof.RefTable.lean ====
/-
  The reference's segments in the order of its output, in the groups its concatenation makes, and that they are the
  segments of the kernel's table.
-/
module

public import proofs.«01_k».proof.Proof.Match
public import proofs.«01_k».proof.ReferenceIdeal

@[expose] public section

noncomputable section

namespace TP

open Idealize.ShloMosaic Idealize.SL.Sem Cert.ReferenceIdeal

/-- The segments of the first group. -/
def group0 : List RSeg :=
  [⟨1, 1, 1, 0, 0, 1, fun _ => 0x3F800000#32, by decide, by decide, by decide⟩,
   ⟨3, 3, 1, 16, 16, 9, lit5, by decide, by decide, by decide⟩,
   ⟨5, 5, 1, 64, 64, 25, lit21, by decide, by decide, by decide⟩,
   ⟨7, 7, 1, 144, 144, 49, lit45, by decide, by decide, by decide⟩,
   ⟨9, 9, 1, 256, 256, 81, lit75, by decide, by decide, by decide⟩,
   ⟨1, 3, 3, 0, 16, 9, lit0, by decide, by decide, by decide⟩,
   ⟨3, 1, 3, 16, 0, 9, lit4, by decide, by decide, by decide⟩,
   ⟨3, 5, 3, 16, 64, 45, lit8, by decide, by decide, by decide⟩,
   ⟨5, 3, 3, 64, 16, 45, lit18, by decide, by decide, by decide⟩,
   ⟨5, 7, 3, 64, 144, 105, lit26, by decide, by decide, by decide⟩,
   ⟨7, 5, 3, 144, 64, 105, lit40, by decide, by decide, by decide⟩,
   ⟨7, 9, 3, 144, 256, 189, lit52, by decide, by decide, by decide⟩,
   ⟨9, 7, 3, 256, 144, 189, lit68, by decide, by decide, by decide⟩,
   ⟨3, 3, 3, 16, 16, 27, lit6, by decide, by decide, by decide⟩,
   ⟨5, 5, 3, 64, 64, 75, lit22, by decide, by decide, by decide⟩,
   ⟨7, 7, 3, 144, 144, 147, lit46, by decide, by decide, by decide⟩]

/-- The segments of the second group. -/
def group1 : List RSeg :=
  [⟨9, 9, 3, 256, 256, 243, lit76, by decide, by decide, by decide⟩,
   ⟨3, 5, 5, 16, 64, 75, lit9, by decide, by decide, by decide⟩,
   ⟨5, 3, 5, 64, 16, 75, lit19, by decide, by decide, by decide⟩,
   ⟨5, 7, 5, 64, 144, 175, lit27, by decide, by decide, by decide⟩,
   ⟨7, 5, 5, 144, 64, 175, lit41, by decide, by decide, by decide⟩,
   ⟨7, 9, 5, 144, 256, 315, lit53, by decide, by decide, by decide⟩,
   ⟨9, 7, 5, 256, 144, 315, lit69, by decide, by decide, by decide⟩,
   ⟨1, 5, 5, 0, 64, 25, lit1, by decide, by decide, by decide⟩,
   ⟨3, 3, 5, 16, 16, 45, lit7, by decide, by decide, by decide⟩,
   ⟨3, 7, 5, 16, 144, 105, lit11, by decide, by decide, by decide⟩,
   ⟨5, 1, 5, 64, 0, 25, lit17, by decide, by decide, by decide⟩,
   ⟨5, 5, 5, 64, 64, 125, lit23, by decide, by decide, by decide⟩,
   ⟨5, 9, 5, 64, 256, 225, lit31, by decide, by decide, by decide⟩,
   ⟨7, 3, 5, 144, 16, 105, lit37, by decide, by decide, by decide⟩,
   ⟨7, 7, 5, 144, 144, 245, lit47, by decide, by decide, by decide⟩,
   ⟨9, 5, 5, 256, 64, 225, lit63, by decide, by decide, by decide⟩]

/-- The segments of the third group. -/
def group2 : List RSeg :=
  [⟨9, 9, 5, 256, 256, 405, lit77, by decide, by decide, by decide⟩,
   ⟨1, 7, 7, 0, 144, 49, lit2, by decide, by decide, by decide⟩,
   ⟨3, 5, 7, 16, 64, 105, lit10, by decide, by decide, by decide⟩,
   ⟨3, 9, 7, 16, 256, 189, lit14, by decide, by decide, by decide⟩,
   ⟨5, 3, 7, 64, 16, 105, lit20, by decide, by decide, by decide⟩,
   ⟨5, 7, 7, 64, 144, 245, lit28, by decide, by decide, by decide⟩,
   ⟨7, 1, 7, 144, 0, 49, lit36, by decide, by decide, by decide⟩,
   ⟨7, 5, 7, 144, 64, 245, lit42, by decide, by decide, by decide⟩,
   ⟨7, 9, 7, 144, 256, 441, lit54, by decide, by decide, by decide⟩,
   ⟨9, 3, 7, 256, 16, 189, lit60, by decide, by decide, by decide⟩,
   ⟨9, 7, 7, 256, 144, 441, lit70, by decide, by decide, by decide⟩,
   ⟨3, 7, 7, 16, 144, 147, lit12, by decide, by decide, by decide⟩,
   ⟨5, 5, 7, 64, 64, 175, lit24, by decide, by decide, by decide⟩,
   ⟨5, 9, 7, 64, 256, 315, lit32, by decide, by decide, by decide⟩,
   ⟨7, 3, 7, 144, 16, 147, lit38, by decide, by decide, by decide⟩,
   ⟨7, 7, 7, 144, 144, 343, lit48, by decide, by decide, by decide⟩]

/-- The segments of the fourth group. -/
def group3 : List RSeg :=
  [⟨9, 5, 7, 256, 64, 315, lit64, by decide, by decide, by decide⟩,
   ⟨9, 9, 7, 256, 256, 567, lit78, by decide, by decide, by decide⟩,
   ⟨3, 9, 9, 16, 256, 243, lit15, by decide, by decide, by decide⟩,
   ⟨5, 7, 9, 64, 144, 315, lit29, by decide, by decide, by decide⟩,
   ⟨7, 5, 9, 144, 64, 315, lit43, by decide, by decide, by decide⟩,
   ⟨7, 9, 9, 144, 256, 567, lit55, by decide, by decide, by decide⟩,
   ⟨9, 3, 9, 256, 16, 243, lit61, by decide, by decide, by decide⟩,
   ⟨9, 7, 9, 256, 144, 567, lit71, by decide, by decide, by decide⟩,
   ⟨1, 9, 9, 0, 256, 81, lit3, by decide, by decide, by decide⟩,
   ⟨3, 7, 9, 16, 144, 189, lit13, by decide, by decide, by decide⟩,
   ⟨5, 5, 9, 64, 64, 225, lit25, by decide, by decide, by decide⟩,
   ⟨5, 9, 9, 64, 256, 405, lit33, by decide, by decide, by decide⟩,
   ⟨7, 3, 9, 144, 16, 189, lit39, by decide, by decide, by decide⟩,
   ⟨7, 7, 9, 144, 144, 441, lit49, by decide, by decide, by decide⟩,
   ⟨9, 1, 9, 256, 0, 81, lit59, by decide, by decide, by decide⟩,
   ⟨9, 5, 9, 256, 64, 405, lit65, by decide, by decide, by decide⟩]

/-- The segments of the fifth group. -/
def group4 : List RSeg :=
  [⟨9, 9, 9, 256, 256, 729, lit79, by decide, by decide, by decide⟩,
   ⟨3, 9, 11, 16, 256, 297, lit16, by decide, by decide, by decide⟩,
   ⟨5, 7, 11, 64, 144, 385, lit30, by decide, by decide, by decide⟩,
   ⟨7, 5, 11, 144, 64, 385, lit44, by decide, by decide, by decide⟩,
   ⟨7, 9, 11, 144, 256, 693, lit56, by decide, by decide, by decide⟩,
   ⟨9, 3, 11, 256, 16, 297, lit62, by decide, by decide, by decide⟩,
   ⟨9, 7, 11, 256, 144, 693, lit72, by decide, by decide, by decide⟩,
   ⟨5, 9, 11, 64, 256, 495, lit34, by decide, by decide, by decide⟩,
   ⟨7, 7, 11, 144, 144, 539, lit50, by decide, by decide, by decide⟩,
   ⟨9, 5, 11, 256, 64, 495, lit66, by decide, by decide, by decide⟩,
   ⟨9, 9, 11, 256, 256, 891, lit80, by decide, by decide, by decide⟩,
   ⟨7, 9, 13, 144, 256, 819, lit57, by decide, by decide, by decide⟩,
   ⟨9, 7, 13, 256, 144, 819, lit73, by decide, by decide, by decide⟩,
   ⟨5, 9, 13, 64, 256, 585, lit35, by decide, by decide, by decide⟩,
   ⟨7, 7, 13, 144, 144, 637, lit51, by decide, by decide, by decide⟩,
   ⟨9, 5, 13, 256, 64, 585, lit67, by decide, by decide, by decide⟩]

/-- The segments of the last group. -/
def group5 : List RSeg :=
  [⟨9, 9, 13, 256, 256, 1053, lit81, by decide, by decide, by decide⟩,
   ⟨7, 9, 15, 144, 256, 945, lit58, by decide, by decide, by decide⟩,
   ⟨9, 7, 15, 256, 144, 945, lit74, by decide, by decide, by decide⟩,
   ⟨9, 9, 15, 256, 256, 1215, lit82, by decide, by decide, by decide⟩,
   ⟨9, 9, 17, 256, 256, 1377, lit83, by decide, by decide, by decide⟩]

/-- All the groups. -/
def groups : List (List RSeg) := [group0, group1, group2, group3, group4, group5]

/-! ## The tables agree

Each group's tables are compared by computation. -/

/-- The segments of the kernel's table from the `i`-th on. -/
def segsFrom (i : Nat) : List Seg := blocks.flatten.drop i

/-- The first group. -/
theorem match0 : segsMatch ((segsFrom 0).take 16) group0 = true := by decide +kernel
/-- The second group. -/
theorem match1 : segsMatch ((segsFrom 16).take 16) group1 = true := by decide +kernel
/-- The third group. -/
theorem match2 : segsMatch ((segsFrom 32).take 16) group2 = true := by decide +kernel
/-- The fourth group. -/
theorem match3 : segsMatch ((segsFrom 48).take 16) group3 = true := by decide +kernel
/-- The fifth group. -/
theorem match4 : segsMatch ((segsFrom 64).take 16) group4 = true := by decide +kernel
/-- The last group. -/
theorem match5 : segsMatch (segsFrom 80) group5 = true := by decide +kernel

/-- Sixteen segments further on. -/
theorem segsFrom_drop (i : Nat) : (segsFrom i).drop 16 = segsFrom (i + 16) := by
  unfold segsFrom; rw [List.drop_drop]

/-- A group's segments, and those after it. -/
theorem match_cons {G H : List RSeg} (i : Nat) (h : segsMatch ((segsFrom i).take 16) G = true)
    (h' : segsMatch (segsFrom (i + 16)) H = true) : segsMatch (segsFrom i) (G ++ H) = true :=
  segsMatch_split G H 16 _ h (by rwa [segsFrom_drop])

/-- The kernel's table holds the reference's numbers, segment by segment. -/
theorem tables_match : segsMatch blocks.flatten groups.flatten = true :=
  match_cons 0 match0 (match_cons 16 match1 (match_cons 32 match2 (match_cons 48 match3 (match_cons 64 match4
    (by simpa using match5)))))

end TP
-- ==== Proof.RefValue.lean ====
/-
  What the reference computes: its concatenation of concatenations is its segments laid side by side.
-/
module

public import proofs.«01_k».proof.Proof.RefTable
public import proofs.«01_k».proof.Proof.Gen.ReferenceIdeal.Run
public import Idealize.ShloMosaic.Lib.Quiescent

@[expose] public section

noncomputable section

namespace TP

open Idealize.ShloMosaic Idealize.ShloMosaic.TcCoe Idealize.SL.Sem Idealize.ShloMosaic.StableHlo
open Cert.ReferenceIdeal Cert.ReferenceIdeal.Gen Cert.ReferenceIdeal.Value

/-! ## A group -/

/-- The pieces of a group. -/
abbrev groupPieces (x y : FVec Ideal (D2 128 400) .f32) (G : List RSeg) : List Piece := G.map (RSeg.piece x y)

/-- The width of a group. -/
def widthR : List RSeg → Nat
  | [] => 0
  | R :: Rs => 256 * R.K + widthR Rs

/-- The width of a group, from its segments. -/
theorem widthP_group (x y : FVec Ideal (D2 128 400) .f32) (G : List RSeg) : widthP (groupPieces x y G) = widthR G := by
  induction G with
  | nil => rfl
  | cons R G ih => simp only [groupPieces, List.map_cons, widthP, widthR] at ih ⊢; rw [ih]

/-- Pieces can be laid end to end. -/
theorem pieces_concatenates (Ps : List Piece) (W : Nat) (h2 : 2 ≤ Ps.length) (hW : widthP Ps = W) :
    Shape.Concatenates ((pieces Ps).map (·.1)) (D2 128 W) 1 := by
  refine ⟨by simpa [pieces] using h2, ?_, (pieces_sum Ps).trans hW⟩
  intro s hs
  simp only [pieces, List.map_map, List.mem_map] at hs
  obtain ⟨P, _, rfl⟩ := hs
  refine ⟨rfl, fun b hb => ?_⟩
  match b with
  | ⟨0, _⟩ => rfl
  | ⟨1, _⟩ => exact absurd rfl hb

/-- A group laid end to end. -/
abbrev groupCat (x y : FVec Ideal (D2 128 400) .f32) (G : List RSeg) (W : Nat) (h2 : 2 ≤ G.length) (hW : widthR G = W) :
    FVec Ideal (D2 128 W) .f32 :=
  concatenate (D2 128 W) 1 (pieces (groupPieces x y G))
    (pieces_concatenates _ W (by simpa using h2) ((widthP_group x y G).trans hW))

/-- A group as one piece of the output. -/
abbrev groupPiece (x y : FVec Ideal (D2 128 400) .f32) (G : List RSeg) (W : Nat) (h2 : 2 ≤ G.length) (hW : widthR G = W) :
    Piece := ⟨W, groupCat x y G W h2 hW⟩

/-! ## The output -/

/-- The groups as the pieces of the output. -/
abbrev outPieces (x y : FVec Ideal (D2 128 400) .f32) : List Piece :=
  [groupPiece x y group0 9728 (by decide) (by decide), groupPiece x y group1 19968 (by decide) (by decide),
   groupPiece x y group2 28160 (by decide) (by decide), groupPiece x y group3 35840 (by decide) (by decide),
   groupPiece x y group4 47104 (by decide) (by decide), groupPiece x y group5 19200 (by decide) (by decide)]

/-- The reference's output. -/
def refOut (x y : FVec Ideal (D2 128 400) .f32) : FVec Ideal (D2 128 160000) .f32 :=
  concatenate (D2 128 160000) 1 (pieces (outPieces x y))
    (pieces_concatenates (outPieces x y) 160000 (show 2 ≤ 6 by decide) (by simp only [outPieces, widthP]))

/-- A group's column, among its segments. -/
theorem groupCat_apply (x y : FVec Ideal (D2 128 400) .f32) (G : List RSeg) (W : Nat) (h2 : 2 ≤ G.length)
    (hW : widthR G = W) :
    W = widthP (groupPieces x y G) ∧
      ∀ b (n : Fin W), groupCat x y G W h2 hW (ix2 b n) = colAt (groupPieces x y G) b n.val :=
  ⟨((widthP_group x y G).trans hW).symm, fun b n => concatenate_pieces W _ _ b n⟩

/-- A column of the reference's output is that column of its segments laid side by side. -/
theorem refOut_apply (x y : FVec Ideal (D2 128 400) .f32) (b : Fin 128) (n : Fin 160000) :
    refOut x y (ix2 b n) = colAt (groups.flatten.map (RSeg.piece x y)) b n.val := by
  refine (concatenate_pieces 160000 (outPieces x y) _ b n).trans ?_
  refine (colAt_flatten (outPieces x y) (groups.map (groupPieces x y)) ?_ b n.val).trans ?_
  · exact ⟨groupCat_apply x y group0 9728 (by decide) (by decide), groupCat_apply x y group1 19968 (by decide) (by decide), groupCat_apply x y group2 28160 (by decide) (by decide),
      groupCat_apply x y group3 35840 (by decide) (by decide), groupCat_apply x y group4 47104 (by decide) (by decide), groupCat_apply x y group5 19200 (by decide) (by decide), trivial⟩
  · rw [List.map_flatten]

set_option maxHeartbeats 4000000 in
/-- The reference runs, and leaves its output in its result, its arguments as they were and its counters at zero. -/
theorem ref_runs (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v321) =
        refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).1.trans (rfl), (h c).2⟩, sem_eq_zero_of_no_sems rfl r.2⟩)
    (Cert.ReferenceIdeal.Value.run m ρ)

end TP
-- ==== Proof.Equation.lean ====
/-
  The kernel and the reference compute the same numbers.
-/
module

public import proofs.«01_k».proof.Proof.Blocks
public import proofs.«01_k».proof.Proof.RefValue

@[expose] public section

noncomputable section

namespace TP

open Idealize.ShloMosaic Idealize.SL.Sem

/-- Over the extended reals, every entry of the kernel's output is the reference's. -/
theorem kernelOut_eq (x y : FVec Ideal (D2 128 400) .f32) :
    (fun i : (D2 128 160000).Idx => kernelOut x y (i 0) (i 1).val) = refOut x y := by
  funext i
  rw [show i = ix2 (i 0) (i 1) from ext2 rfl rfl]
  exact (outVal_eq x y (i 0) blocks.flatten groups.flatten tables_match (i 1).val).trans
    (refOut_apply x y (i 0) (i 1)).symm

end TP
-- ==== Proof.lean ====
/-
  The claim: the kernel, its idealization and the reference run and leave their arguments as they were; the idealization
  is the kernel's own text; and over the extended reals the idealization and the reference have the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchBits
public import proofs.«01_k».proof.Proof.LaunchIdeal
public import proofs.«01_k».proof.Proof.Equation
public import Idealize.ShloMosaic.Adequacy
public import Idealize.ShloMosaic.Init

@[expose] public section

noncomputable section

namespace Cert.Proof

open Idealize.ShloMosaic Idealize.SL.Sem

/-- The kernel runs, its arguments unchanged and every counter at zero. -/
theorem kernel_quiescent : Cert.quiescent_Kernel (hKernel := Cert.Kernel.Gen.facts) := fun m g _ =>
  (θ_run _ _ _).mono (fun _ h => ⟨fun c => (h.1 c).2, h.2⟩) (TP.Kernel.runs m g)

/-- So does its idealization. -/
theorem kernelIdeal_quiescent : Cert.quiescent_KernelIdeal (hKernelIdeal := Cert.KernelIdeal.Gen.facts) := fun m g _ =>
  (θ_run _ _ _).mono (fun _ h => ⟨fun c => (h.1 c).2, h.2⟩) (TP.KernelIdeal.runs m g)

/-- And the reference. -/
theorem referenceIdeal_quiescent : Cert.quiescent_ReferenceIdeal (hReferenceIdeal := Cert.ReferenceIdeal.Gen.facts) :=
  fun m g _ => (θ_run _ _ _).mono (fun _ h => ⟨fun c => (h.1 c).2, h.2⟩) (TP.ref_runs m g)

/-- From equal arguments the idealization and the reference end with equal results. -/
theorem same_result : Cert.algebraic_KernelIdeal_ReferenceIdeal (hKernelIdeal := Cert.KernelIdeal.Gen.facts)
    (hReferenceIdeal := Cert.ReferenceIdeal.Gen.facts) := fun m g m' g' _ hm => by
  refine ⟨fun c => TP.KernelIdeal.result m c, (θ_run _ _ _).mono (fun _ h => h.1) (TP.KernelIdeal.runs m g),
    (θ_run _ _ _).mono (fun _ h c => ⟨(h.1 c).1.trans ?_, (h.1 c).2⟩) (TP.ref_runs m' g')⟩
  rw [(hm c).1, (hm c).2]
  exact (TP.kernelOut_eq _ _).symm

/-- Everything that is claimed. -/
theorem claim : Cert.Claim :=
  ⟨Cert.Kernel.Gen.facts, Cert.KernelIdeal.Gen.facts, Cert.ReferenceIdeal.Gen.facts, kernel_quiescent,
    kernelIdeal_quiescent, referenceIdeal_quiescent, trivial, same_result⟩

end Cert.Proof

end
